-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 32768]⟩ (Layout.meshBlock [2, 4] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x8192 : Shape := ⟨2, ![1024, 8192]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_

variable [Facts]

def fn {F : FTy → Type} [FloatOps F] (main_arg0 : FVec F S512x1024 .f32) (main_arg1 : FVec F S1024x8192 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  main_v8
-- ==== Pre_finite_ReferenceIdeal.lean ====
abbrev S512x1024 : Shape := ⟨2, ![512, 1024]⟩
abbrev S1024x32768 : Shape := ⟨2, ![1024, 32768]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x32768 : S_.BroadcastsInDim S1024x32768 (![] : Fin 0 → Fin S1024x32768.rank)
  reducesTo_S1024x32768_S_d0_1 : S1024x32768.ReducesTo [0, 1] S_

variable [Facts]

def fn {F : FTy → Type} [FloatOps F] (main_arg0 : FVec F S512x1024 .f32) (main_arg1 : FVec F S1024x32768 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x32768 .f32 := Host.absf main_arg1
  let main_cst_0 : FVec F S_ .f32 := constant S_ .f32 0x7F800000#32
  let main_v5 : FVec F S1024x32768 .f32 := broadcastInDim S1024x32768 ![] bcast_S_S1024x32768 main_cst_0
  let main_v6 : IVec S1024x32768 1 := cmpf .olt main_v4 main_v5
  let main_c_1 : IVec S_ 1 := constantI S_ 1 1#1
  let main_v7 : IVec S_ 1 := (fun x v => Host.reduce IntOp.andi x v reducesTo_S1024x32768_S_d0_1 h_S_) main_v6 main_c_1
  let main_v8 : IVec S_ 1 := andi main_v3 main_v7
  main_v8
-- ==== Kernel.lean ====
abbrev S512x1024 : Shape := ⟨2, ![512, 1024]⟩
abbrev S1024x8192 : Shape := ⟨2, ![1024, 8192]⟩
abbrev S512x32768 : Shape := ⟨2, ![512, 32768]⟩
abbrev S512x2048 : Shape := ⟨2, ![512, 2048]⟩
abbrev S1024x2048 : Shape := ⟨2, ![1024, 2048]⟩
abbrev S256x2048 : Shape := ⟨2, ![256, 2048]⟩
abbrev S2x512x128 : Shape := ⟨3, ![2, 512, 128]⟩
abbrev S_ : Shape := ⟨0, ![]⟩
abbrev S4 : Shape := ⟨1, ![4]⟩
abbrev S2 : Shape := ⟨1, ![2]⟩
abbrev S3x4 : Shape := ⟨2, ![3, 4]⟩
abbrev S256x1 : Shape := ⟨2, ![256, 1]⟩
abbrev S256x1024 : Shape := ⟨2, ![256, 1024]⟩
abbrev S1x1 : Shape := ⟨2, ![1, 1]⟩
abbrev S256 : Shape := ⟨1, ![256]⟩
abbrev S256x128 : Shape := ⟨2, ![256, 128]⟩
abbrev S1x256x128 : Shape := ⟨3, ![1, 256, 128]⟩
abbrev S1 : Shape := ⟨1, ![1]⟩
abbrev S2x256x128 : Shape := ⟨3, ![2, 256, 128]⟩
abbrev S1x512x1 : Shape := ⟨3, ![1, 512, 1]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512x32768, .f32⟩
  | .local _ .vmem, ⟨0, _⟩ => ⟨S512x1024, .f32⟩
  | .local _ .vmem, ⟨1, _⟩ => ⟨S512x2048, .f32⟩
  | .local _ .vmem, ⟨2, _⟩ => ⟨S512x2048, .f32⟩
  | .local _ .vmem, ⟨3, _⟩ => ⟨S1024x2048, .f32⟩
  | .local _ .vmem, ⟨4, _⟩ => ⟨S256x2048, .f32⟩
  | .local _ .vmem, ⟨5, _⟩ => ⟨S2x512x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 1 57 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v13 : BitVec 32 := Scalar.muli v2 c4_i32_6
  let v14 : BitVec 32 := Scalar.addi c0_i32 v13
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c3_i32 : BitVec 32 := 3#32
  let v6 : BitVec 32 := Scalar.addi v5 c3_i32
  let c4_i32_1 : BitVec 32 := 4#32
  let v7 : BitVec 32 := Scalar.remsi v6 c4_i32_1
  let c1_i32_7 : BitVec 32 := 1#32
  let v15 : BitVec 32 := Scalar.muli v7 c1_i32_7
  let v16 : BitVec 32 := Scalar.addi v14 v15
  v16.toNat
def k0_dev2 (d0 : Dev nD) : Nat :=
  let c0_i32_10 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v17 : BitVec 32 := Scalar.muli v2 c4_i32_9
  let v18 : BitVec 32 := Scalar.addi c0_i32_10 v17
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_2 : BitVec 32 := 1#32
  let v8 : BitVec 32 := Scalar.addi v5 c1_i32_2
  let c4_i32_3 : BitVec 32 := 4#32
  let v9 : BitVec 32 := Scalar.remsi v8 c4_i32_3
  let c1_i32_11 : BitVec 32 := 1#32
  let v19 : BitVec 32 := Scalar.muli v9 c1_i32_11
  let v20 : BitVec 32 := Scalar.addi v18 v19
  v20.toNat
def k0_dev3 (d0 : Dev nD) : Nat :=
  let c0_i32_14 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let c4_i32_13 : BitVec 32 := 4#32
  let v21 : BitVec 32 := Scalar.muli v12 c4_i32_13
  let v22 : BitVec 32 := Scalar.addi c0_i32_14 v21
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_15 : BitVec 32 := 1#32
  let v23 : BitVec 32 := Scalar.muli v5 c1_i32_15
  let v24 : BitVec 32 := Scalar.addi v22 v23
  v24.toNat
def k0_off1 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v10 : BitVec 32 := Scalar.muli v2 c256_i32
  let v31 : Index := Scalar.indexCast v10
  let c0 : Index := 0#32
  ![v31.toNat, 0]
def k0_off2 (d0 : Dev nD) (c0_i32_29 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v10 : BitVec 32 := Scalar.muli v2 c256_i32
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c8192_i32 : BitVec 32 := 8192#32
  let v39 : BitVec 32 := Scalar.muli v5 c8192_i32
  let v40 : BitVec 32 := Scalar.addi v39 c0_i32_29
  ![v10.toNat, v40.toNat]
def k0_dev4 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v49 : BitVec 32 := Scalar.muli v2 c4_i32_42
  let v50 : BitVec 32 := Scalar.addi c0_i32_43 v49
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_2 : BitVec 32 := 1#32
  let v8 : BitVec 32 := Scalar.addi v5 c1_i32_2
  let c4_i32_3 : BitVec 32 := 4#32
  let v9 : BitVec 32 := Scalar.remsi v8 c4_i32_3
  let c1_i32_44 : BitVec 32 := 1#32
  let v51 : BitVec 32 := Scalar.muli v9 c1_i32_44
  let v52 : BitVec 32 := Scalar.addi v50 v51
  v52.toNat
def k0_dev5 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_68 : BitVec 32 := 4#32
  let v79 : BitVec 32 := Scalar.muli v2 c4_i32_68
  let v80 : BitVec 32 := Scalar.addi c0_i32_69 v79
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_2 : BitVec 32 := 1#32
  let v8 : BitVec 32 := Scalar.addi v5 c1_i32_2
  let c4_i32_3 : BitVec 32 := 4#32
  let v9 : BitVec 32 := Scalar.remsi v8 c4_i32_3
  let c1_i32_70 : BitVec 32 := 1#32
  let v81 : BitVec 32 := Scalar.muli v9 c1_i32_70
  let v82 : BitVec 32 := Scalar.addi v80 v81
  v82.toNat
def k0_dev6 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_94 : BitVec 32 := 4#32
  let v109 : BitVec 32 := Scalar.muli v2 c4_i32_94
  let v110 : BitVec 32 := Scalar.addi c0_i32_95 v109
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_2 : BitVec 32 := 1#32
  let v8 : BitVec 32 := Scalar.addi v5 c1_i32_2
  let c4_i32_3 : BitVec 32 := 4#32
  let v9 : BitVec 32 := Scalar.remsi v8 c4_i32_3
  let c1_i32_96 : BitVec 32 := 1#32
  let v111 : BitVec 32 := Scalar.muli v9 c1_i32_96
  let v112 : BitVec 32 := Scalar.addi v110 v111
  v112.toNat
def k0_dev7 (d0 : Dev nD) : Nat :=
  let c0_i32_121 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_120 : BitVec 32 := 4#32
  let v139 : BitVec 32 := Scalar.muli v2 c4_i32_120
  let v140 : BitVec 32 := Scalar.addi c0_i32_121 v139
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_2 : BitVec 32 := 1#32
  let v8 : BitVec 32 := Scalar.addi v5 c1_i32_2
  let c4_i32_3 : BitVec 32 := 4#32
  let v9 : BitVec 32 := Scalar.remsi v8 c4_i32_3
  let c1_i32_122 : BitVec 32 := 1#32
  let v141 : BitVec 32 := Scalar.muli v9 c1_i32_122
  let v142 : BitVec 32 := Scalar.addi v140 v141
  v142.toNat
def k0_off3 (d0 : Dev nD) (c3_i32_123 : BitVec 32) (c0_i32_135 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v10 : BitVec 32 := Scalar.muli v2 c256_i32
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let v149 : BitVec 32 := Scalar.addi v5 c3_i32_123
  let c4_i32_124 : BitVec 32 := 4#32
  let v150 : BitVec 32 := Scalar.remsi v149 c4_i32_124
  let c8192_i32_134 : BitVec 32 := 8192#32
  let v161 : BitVec 32 := Scalar.muli v150 c8192_i32_134
  let v162 : BitVec 32 := Scalar.addi v161 c0_i32_135
  ![v10.toNat, v162.toNat]
def k0_dev8 (d0 : Dev nD) : Nat :=
  let c0_i32_141 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_140 : BitVec 32 := 4#32
  let v163 : BitVec 32 := Scalar.muli v2 c4_i32_140
  let v164 : BitVec 32 := Scalar.addi c0_i32_141 v163
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_2 : BitVec 32 := 1#32
  let v8 : BitVec 32 := Scalar.addi v5 c1_i32_2
  let c4_i32_3 : BitVec 32 := 4#32
  let v9 : BitVec 32 := Scalar.remsi v8 c4_i32_3
  let c1_i32_142 : BitVec 32 := 1#32
  let v165 : BitVec 32 := Scalar.muli v9 c1_i32_142
  let v166 : BitVec 32 := Scalar.addi v164 v165
  v166.toNat
def k0_dev9 (d0 : Dev nD) : Nat :=
  let c0_i32_153 : BitVec 32 := 0#32
  let c1_i32_147 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v177 : BitVec 32 := Scalar.subi c1_i32_147 v2
  let c4_i32_152 : BitVec 32 := 4#32
  let v178 : BitVec 32 := Scalar.muli v177 c4_i32_152
  let v179 : BitVec 32 := Scalar.addi c0_i32_153 v178
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_154 : BitVec 32 := 1#32
  let v180 : BitVec 32 := Scalar.muli v5 c1_i32_154
  let v181 : BitVec 32 := Scalar.addi v179 v180
  v181.toNat
def k0_off4 (d0 : Dev nD) : Fin 2 → Nat :=
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_18 v2
  let c256_i32_19 : BitVec 32 := 256#32
  let v28 : BitVec 32 := Scalar.muli v27 c256_i32_19
  let v207 : Index := Scalar.indexCast v28
  let c0_165 : Index := 0#32
  ![v207.toNat, 0]
def k0_off5 (d0 : Dev nD) (c0_i32_172 : BitVec 32) : Fin 2 → Nat :=
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_18 v2
  let c256_i32_19 : BitVec 32 := 256#32
  let v28 : BitVec 32 := Scalar.muli v27 c256_i32_19
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c8192_i32_171 : BitVec 32 := 8192#32
  let v215 : BitVec 32 := Scalar.muli v5 c8192_i32_171
  let v216 : BitVec 32 := Scalar.addi v215 c0_i32_172
  ![v28.toNat, v216.toNat]
def k0_dev10 (d0 : Dev nD) : Nat :=
  let c0_i32_193 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_192 : BitVec 32 := 4#32
  let v233 : BitVec 32 := Scalar.muli v2 c4_i32_192
  let v234 : BitVec 32 := Scalar.addi c0_i32_193 v233
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_2 : BitVec 32 := 1#32
  let v8 : BitVec 32 := Scalar.addi v5 c1_i32_2
  let c4_i32_3 : BitVec 32 := 4#32
  let v9 : BitVec 32 := Scalar.remsi v8 c4_i32_3
  let c1_i32_194 : BitVec 32 := 1#32
  let v235 : BitVec 32 := Scalar.muli v9 c1_i32_194
  let v236 : BitVec 32 := Scalar.addi v234 v235
  v236.toNat
def k0_dev11 (d0 : Dev nD) : Nat :=
  let c0_i32_205 : BitVec 32 := 0#32
  let c1_i32_199 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v247 : BitVec 32 := Scalar.subi c1_i32_199 v2
  let c4_i32_204 : BitVec 32 := 4#32
  let v248 : BitVec 32 := Scalar.muli v247 c4_i32_204
  let v249 : BitVec 32 := Scalar.addi c0_i32_205 v248
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_206 : BitVec 32 := 1#32
  let v250 : BitVec 32 := Scalar.muli v5 c1_i32_206
  let v251 : BitVec 32 := Scalar.addi v249 v250
  v251.toNat
def k0_dev12 (d0 : Dev nD) : Nat :=
  let c0_i32_229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_228 : BitVec 32 := 4#32
  let v287 : BitVec 32 := Scalar.muli v2 c4_i32_228
  let v288 : BitVec 32 := Scalar.addi c0_i32_229 v287
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_2 : BitVec 32 := 1#32
  let v8 : BitVec 32 := Scalar.addi v5 c1_i32_2
  let c4_i32_3 : BitVec 32 := 4#32
  let v9 : BitVec 32 := Scalar.remsi v8 c4_i32_3
  let c1_i32_230 : BitVec 32 := 1#32
  let v289 : BitVec 32 := Scalar.muli v9 c1_i32_230
  let v290 : BitVec 32 := Scalar.addi v288 v289
  v290.toNat
def k0_dev13 (d0 : Dev nD) : Nat :=
  let c0_i32_241 : BitVec 32 := 0#32
  let c1_i32_235 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v301 : BitVec 32 := Scalar.subi c1_i32_235 v2
  let c4_i32_240 : BitVec 32 := 4#32
  let v302 : BitVec 32 := Scalar.muli v301 c4_i32_240
  let v303 : BitVec 32 := Scalar.addi c0_i32_241 v302
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_242 : BitVec 32 := 1#32
  let v304 : BitVec 32 := Scalar.muli v5 c1_i32_242
  let v305 : BitVec 32 := Scalar.addi v303 v304
  v305.toNat
def k0_dev14 (d0 : Dev nD) : Nat :=
  let c0_i32_281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_280 : BitVec 32 := 4#32
  let v357 : BitVec 32 := Scalar.muli v2 c4_i32_280
  let v358 : BitVec 32 := Scalar.addi c0_i32_281 v357
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_2 : BitVec 32 := 1#32
  let v8 : BitVec 32 := Scalar.addi v5 c1_i32_2
  let c4_i32_3 : BitVec 32 := 4#32
  let v9 : BitVec 32 := Scalar.remsi v8 c4_i32_3
  let c1_i32_282 : BitVec 32 := 1#32
  let v359 : BitVec 32 := Scalar.muli v9 c1_i32_282
  let v360 : BitVec 32 := Scalar.addi v358 v359
  v360.toNat
def k0_dev15 (d0 : Dev nD) : Nat :=
  let c0_i32_293 : BitVec 32 := 0#32
  let c1_i32_287 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v371 : BitVec 32 := Scalar.subi c1_i32_287 v2
  let c4_i32_292 : BitVec 32 := 4#32
  let v372 : BitVec 32 := Scalar.muli v371 c4_i32_292
  let v373 : BitVec 32 := Scalar.addi c0_i32_293 v372
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_294 : BitVec 32 := 1#32
  let v374 : BitVec 32 := Scalar.muli v5 c1_i32_294
  let v375 : BitVec 32 := Scalar.addi v373 v374
  v375.toNat
def k0_dev16 (d0 : Dev nD) : Nat :=
  let c0_i32_319 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_318 : BitVec 32 := 4#32
  let v413 : BitVec 32 := Scalar.muli v2 c4_i32_318
  let v414 : BitVec 32 := Scalar.addi c0_i32_319 v413
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_2 : BitVec 32 := 1#32
  let v8 : BitVec 32 := Scalar.addi v5 c1_i32_2
  let c4_i32_3 : BitVec 32 := 4#32
  let v9 : BitVec 32 := Scalar.remsi v8 c4_i32_3
  let c1_i32_320 : BitVec 32 := 1#32
  let v415 : BitVec 32 := Scalar.muli v9 c1_i32_320
  let v416 : BitVec 32 := Scalar.addi v414 v415
  v416.toNat
def k0_dev17 (d0 : Dev nD) : Nat :=
  let c0_i32_331 : BitVec 32 := 0#32
  let c1_i32_325 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v427 : BitVec 32 := Scalar.subi c1_i32_325 v2
  let c4_i32_330 : BitVec 32 := 4#32
  let v428 : BitVec 32 := Scalar.muli v427 c4_i32_330
  let v429 : BitVec 32 := Scalar.addi c0_i32_331 v428
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_332 : BitVec 32 := 1#32
  let v430 : BitVec 32 := Scalar.muli v5 c1_i32_332
  let v431 : BitVec 32 := Scalar.addi v429 v430
  v431.toNat
def k0_dev18 (d0 : Dev nD) : Nat :=
  let c0_i32_371 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_370 : BitVec 32 := 4#32
  let v483 : BitVec 32 := Scalar.muli v2 c4_i32_370
  let v484 : BitVec 32 := Scalar.addi c0_i32_371 v483
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_2 : BitVec 32 := 1#32
  let v8 : BitVec 32 := Scalar.addi v5 c1_i32_2
  let c4_i32_3 : BitVec 32 := 4#32
  let v9 : BitVec 32 := Scalar.remsi v8 c4_i32_3
  let c1_i32_372 : BitVec 32 := 1#32
  let v485 : BitVec 32 := Scalar.muli v9 c1_i32_372
  let v486 : BitVec 32 := Scalar.addi v484 v485
  v486.toNat
def k0_dev19 (d0 : Dev nD) : Nat :=
  let c0_i32_383 : BitVec 32 := 0#32
  let c1_i32_377 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v497 : BitVec 32 := Scalar.subi c1_i32_377 v2
  let c4_i32_382 : BitVec 32 := 4#32
  let v498 : BitVec 32 := Scalar.muli v497 c4_i32_382
  let v499 : BitVec 32 := Scalar.addi c0_i32_383 v498
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_384 : BitVec 32 := 1#32
  let v500 : BitVec 32 := Scalar.muli v5 c1_i32_384
  let v501 : BitVec 32 := Scalar.addi v499 v500
  v501.toNat
def k0_dev20 (d0 : Dev nD) : Nat :=
  let c0_i32_407 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_406 : BitVec 32 := 4#32
  let v537 : BitVec 32 := Scalar.muli v2 c4_i32_406
  let v538 : BitVec 32 := Scalar.addi c0_i32_407 v537
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_2 : BitVec 32 := 1#32
  let v8 : BitVec 32 := Scalar.addi v5 c1_i32_2
  let c4_i32_3 : BitVec 32 := 4#32
  let v9 : BitVec 32 := Scalar.remsi v8 c4_i32_3
  let c1_i32_408 : BitVec 32 := 1#32
  let v539 : BitVec 32 := Scalar.muli v9 c1_i32_408
  let v540 : BitVec 32 := Scalar.addi v538 v539
  v540.toNat
def k0_dev21 (d0 : Dev nD) : Nat :=
  let c0_i32_419 : BitVec 32 := 0#32
  let c1_i32_413 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v551 : BitVec 32 := Scalar.subi c1_i32_413 v2
  let c4_i32_418 : BitVec 32 := 4#32
  let v552 : BitVec 32 := Scalar.muli v551 c4_i32_418
  let v553 : BitVec 32 := Scalar.addi c0_i32_419 v552
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_420 : BitVec 32 := 1#32
  let v554 : BitVec 32 := Scalar.muli v5 c1_i32_420
  let v555 : BitVec 32 := Scalar.addi v553 v554
  v555.toNat
def k0_dev22 (d0 : Dev nD) : Nat :=
  let c0_i32_459 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_458 : BitVec 32 := 4#32
  let v607 : BitVec 32 := Scalar.muli v2 c4_i32_458
  let v608 : BitVec 32 := Scalar.addi c0_i32_459 v607
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_2 : BitVec 32 := 1#32
  let v8 : BitVec 32 := Scalar.addi v5 c1_i32_2
  let c4_i32_3 : BitVec 32 := 4#32
  let v9 : BitVec 32 := Scalar.remsi v8 c4_i32_3
  let c1_i32_460 : BitVec 32 := 1#32
  let v609 : BitVec 32 := Scalar.muli v9 c1_i32_460
  let v610 : BitVec 32 := Scalar.addi v608 v609
  v610.toNat
def k0_dev23 (d0 : Dev nD) : Nat :=
  let c0_i32_471 : BitVec 32 := 0#32
  let c1_i32_465 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v621 : BitVec 32 := Scalar.subi c1_i32_465 v2
  let c4_i32_470 : BitVec 32 := 4#32
  let v622 : BitVec 32 := Scalar.muli v621 c4_i32_470
  let v623 : BitVec 32 := Scalar.addi c0_i32_471 v622
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_472 : BitVec 32 := 1#32
  let v624 : BitVec 32 := Scalar.muli v5 c1_i32_472
  let v625 : BitVec 32 := Scalar.addi v623 v624
  v625.toNat
def k0_dev24 (d0 : Dev nD) : Nat :=
  let c0_i32_498 : BitVec 32 := 0#32
  let c1_i32_492 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v663 : BitVec 32 := Scalar.subi c1_i32_492 v2
  let c4_i32_497 : BitVec 32 := 4#32
  let v664 : BitVec 32 := Scalar.muli v663 c4_i32_497
  let v665 : BitVec 32 := Scalar.addi c0_i32_498 v664
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_499 : BitVec 32 := 1#32
  let v666 : BitVec 32 := Scalar.muli v5 c1_i32_499
  let v667 : BitVec 32 := Scalar.addi v665 v666
  v667.toNat
def k0_dev25 (d0 : Dev nD) : Nat :=
  let c0_i32_533 : BitVec 32 := 0#32
  let c1_i32_527 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v722 : BitVec 32 := Scalar.subi c1_i32_527 v2
  let c4_i32_532 : BitVec 32 := 4#32
  let v723 : BitVec 32 := Scalar.muli v722 c4_i32_532
  let v724 : BitVec 32 := Scalar.addi c0_i32_533 v723
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_534 : BitVec 32 := 1#32
  let v725 : BitVec 32 := Scalar.muli v5 c1_i32_534
  let v726 : BitVec 32 := Scalar.addi v724 v725
  v726.toNat
def k0_dev26 (d0 : Dev nD) : Nat :=
  let c0_i32_568 : BitVec 32 := 0#32
  let c1_i32_562 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v781 : BitVec 32 := Scalar.subi c1_i32_562 v2
  let c4_i32_567 : BitVec 32 := 4#32
  let v782 : BitVec 32 := Scalar.muli v781 c4_i32_567
  let v783 : BitVec 32 := Scalar.addi c0_i32_568 v782
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_569 : BitVec 32 := 1#32
  let v784 : BitVec 32 := Scalar.muli v5 c1_i32_569
  let v785 : BitVec 32 := Scalar.addi v783 v784
  v785.toNat
def k0_dev27 (d0 : Dev nD) : Nat :=
  let c0_i32_603 : BitVec 32 := 0#32
  let c1_i32_597 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v840 : BitVec 32 := Scalar.subi c1_i32_597 v2
  let c4_i32_602 : BitVec 32 := 4#32
  let v841 : BitVec 32 := Scalar.muli v840 c4_i32_602
  let v842 : BitVec 32 := Scalar.addi c0_i32_603 v841
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_604 : BitVec 32 := 1#32
  let v843 : BitVec 32 := Scalar.muli v5 c1_i32_604
  let v844 : BitVec 32 := Scalar.addi v842 v843
  v844.toNat
def k0_off6 (d0 : Dev nD) : Fin 3 → Nat :=
  let c0_621 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v10 : BitVec 32 := Scalar.muli v2 c256_i32
  let v889 : Index := Scalar.indexCast v10
  let c0_622 : Index := 0#32
  ![0, v889.toNat, 0]
def k0_off7 (d0 : Dev nD) : Fin 3 → Nat :=
  let c1 : Index := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v10 : BitVec 32 := Scalar.muli v2 c256_i32
  let v895 : Index := Scalar.indexCast v10
  let c0_623 : Index := 0#32
  ![1, v895.toNat, 0]
def k0_off8 (d0 : Dev nD) : Fin 3 → Nat :=
  let c0_i32_630 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32 : BitVec 32 := 256#32
  let v10 : BitVec 32 := Scalar.muli v2 c256_i32
  let c0_i32_631 : BitVec 32 := 0#32
  ![0, v10.toNat, 0]
def k0_dev28 (d0 : Dev nD) : Nat :=
  let c0_i32_628 : BitVec 32 := 0#32
  let c1_i32_624 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v899 : BitVec 32 := Scalar.subi c1_i32_624 v2
  let c4_i32_627 : BitVec 32 := 4#32
  let v900 : BitVec 32 := Scalar.muli v899 c4_i32_627
  let v901 : BitVec 32 := Scalar.addi c0_i32_628 v900
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c1_i32_629 : BitVec 32 := 1#32
  let v902 : BitVec 32 := Scalar.muli v5 c1_i32_629
  let v903 : BitVec 32 := Scalar.addi v901 v902
  v903.toNat
def k0_off9 (d0 : Dev nD) (c0_i32_679 : BitVec 32) : Fin 2 → Nat :=
  let c0_i32_687 : BitVec 32 := 0#32
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let c8192_i32_678 : BitVec 32 := 8192#32
  let v948 : BitVec 32 := Scalar.muli v5 c8192_i32_678
  let v949 : BitVec 32 := Scalar.addi v948 c0_i32_679
  ![0, v949.toNat]
def k0_off10 (d0 : Dev nD) (c3_i32_922 : BitVec 32) (c0_i32_925 : BitVec 32) : Fin 2 → Nat :=
  let c0_i32_953 : BitVec 32 := 0#32
  let v3 : BitVec 32 := Dev.word d0
  let c1_i32 : BitVec 32 := 1#32
  let v4 : BitVec 32 := Scalar.divsi v3 c1_i32
  let c4_i32_0 : BitVec 32 := 4#32
  let v5 : BitVec 32 := Scalar.remsi v4 c4_i32_0
  let v1216 : BitVec 32 := Scalar.addi v5 c3_i32_922
  let c4_i32_923 : BitVec 32 := 4#32
  let v1217 : BitVec 32 := Scalar.remsi v1216 c4_i32_923
  let c8192_i32_924 : BitVec 32 := 8192#32
  let v1218 : BitVec 32 := Scalar.muli v1217 c8192_i32_924
  let v1219 : BitVec 32 := Scalar.addi v1218 c0_i32_925
  ![0, v1219.toNat]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S512x1024 : Shape := ⟨2, ![512, 1024]⟩
abbrev S1024x32768 : Shape := ⟨2, ![1024, 32768]⟩
abbrev S512x32768 : Shape := ⟨2, ![512, 32768]⟩
abbrev S_ : Shape := ⟨0, ![]⟩
abbrev S512 : Shape := ⟨1, ![512]⟩
abbrev S512x1 : Shape := ⟨2, ![512, 1]⟩

abbrev nBuf : Space → Nat
  | .hbm => 14
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x32768, .f32⟩
  | .hbm, ⟨2, _⟩ => ⟨S512x32768, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x32768, .f32⟩
  | .hbm, ⟨7, _⟩ => ⟨S512x32768, .f32⟩
  | .hbm, ⟨8, _⟩ => ⟨S512x32768, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S512x32768, .f32⟩
  | .hbm, ⟨13, _⟩ => ⟨S512x32768, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Program.lean ====
/-
# The kernel's text as a sequence of named stages

The kernel of `kernels/v06.py` is one straight line of memory operations. Here it is written again as
a sequence of STAGES — a block of the product computed and copied out, a half slab sent on, a landed
half slab folded into the running maximum and sum, a column block normalised —, each over the memrefs,
semaphores and devices it touches, and proved equal to the printed body.
-/
module

public import proofs.«01_k».proof.Proof.Gen.KernelIdeal.Skeleton
public import proofs.«01_k».proof.Proof.Gen.KernelIdeal.Launch

@[expose] public section

noncomputable section

namespace Cert.Softmax

open Cert.KernelIdeal Cert.KernelIdeal.Gen
open Idealize.ShloMosaic Idealize.ShloMosaic.TcCoe Idealize.SL.Sem

variable {F : FTy → Type} [FloatOps F] [Named F]

/-- A program of one device's TensorCore. -/
abbrev P (F : FTy → Type) : Type 1 := Prog (TpuEff nD τ sig (Elt F) Λ₀ .tc) PUnit

/-! ## The buffers -/

abbrev xM : Memref sig .tc .vmem S512x1024 .f32 := Memref.whole cc0_stg0_0
abbrev wM : Memref sig .tc .hbm S1024x8192 .f32 := Memref.whole main_arg1
abbrev oM : Memref sig .tc .hbm S512x32768 .f32 := Memref.whole main_v1
abbrev tM : Memref sig .tc .vmem S512x2048 .f32 := Memref.whole cc0_scratch0
abbrev t2M : Memref sig .tc .vmem S512x2048 .f32 := Memref.whole cc0_scratch1
abbrev wtM : Memref sig .tc .vmem S1024x2048 .f32 := Memref.whole cc0_scratch2
abbrev stM : Memref sig .tc .vmem S256x2048 .f32 := Memref.whole cc0_scratch3
abbrev ssM : Memref sig .tc .vmem S2x512x128 .f32 := Memref.whole cc0_scratch4

/-- An offset at which a block of shape `B` lies inside an array of shape `A`. -/
abbrev At (A B : Shape) (off : Fin A.rank → Nat) (h : B.rank = A.rank) : Prop :=
  ∀ a, off a + B.size (a.cast h.symm) ≤ A.size a

/-- The half slab of the result at offset `off`: 256 rows of 2048 columns. -/
abbrev slabAt (off : Fin 2 → Nat) (h : ∀ a, off a + S256x2048.size a ≤ S512x32768.size a) :
    Memref sig .tc .hbm S256x2048 .f32 :=
  oM.slice (Rect.unit (s := S512x32768) off S256x2048.size h) (fun _ => rfl)

/-- The column block of the result at offset `off`: all 512 rows of 2048 columns. -/
abbrev colAt (off : Fin 2 → Nat) (h : ∀ a, off a + S512x2048.size a ≤ S512x32768.size a) :
    Memref sig .tc .hbm S512x2048 .f32 :=
  oM.slice (Rect.unit (s := S512x32768) off S512x2048.size h) (fun _ => rfl)

/-- The block of `W`'s columns at offset `off`. -/
abbrev wAt (off : Fin 2 → Nat) (h : ∀ a, off a + S1024x2048.size a ≤ S1024x8192.size a) :
    Memref sig .tc .hbm S1024x2048 .f32 :=
  wM.slice (Rect.unit (s := S1024x8192) off S1024x2048.size h) (fun _ => rfl)

/-- The rows of the statistics at offset `off`: both planes. -/
abbrev statAt (off : Fin 3 → Nat) (h : ∀ a, off a + S2x256x128.size a ≤ S2x512x128.size a) :
    Memref sig .tc .vmem S2x256x128 .f32 :=
  ssM.slice (Rect.unit (s := S2x512x128) off S2x256x128.size h) (fun _ => rfl)

/-- The rows of the offset `off` of `x`. -/
abbrev xRect (off : Fin 2 → Nat) (h : ∀ a, off a + S256x1024.size a ≤ S512x1024.size a) : Rect S512x1024 :=
  Rect.unit (s := S512x1024) off S256x1024.size h
/-- The upper half of a whole tile. -/
abbrev halfRect : Rect S512x2048 := Rect.unit (s := S512x2048) ![0, 0] S256x2048.size inb_S512x2048_S256x2048_0_0
abbrev wholeRect : Rect S512x2048 := Rect.unit (s := S512x2048) ![0, 0] S512x2048.size inb_S512x2048_S512x2048_0_0
abbrev wtRect : Rect S1024x2048 := Rect.unit (s := S1024x2048) ![0, 0] S1024x2048.size inb_S1024x2048_S1024x2048_0_0
abbrev stRect : Rect S256x2048 := Rect.unit (s := S256x2048) ![0, 0] S256x2048.size inb_S256x2048_S256x2048_0_0
abbrev tHalf : Memref sig .tc .vmem S256x2048 .f32 := tM.slice halfRect (fun _ => rfl)
abbrev t2Half : Memref sig .tc .vmem S256x2048 .f32 := t2M.slice halfRect (fun _ => rfl)

/-! ## The semaphores -/

abbrev qLoc : DmaSem sig := 1
abbrev qW : DmaSem sig := 2
/-- The semaphore of the loads of tile `b`. -/
abbrev qIn : Bool → DmaSem sig | false => 3 | true => 4
/-- The semaphore of the stores of tile `b`. -/
abbrev qOut : Bool → DmaSem sig | false => 5 | true => 6
abbrev qStS : DmaSem sig := 7
abbrev qStR : DmaSem sig := 8
/-- The ring's send and receive semaphores and the pair's, of the transfer `n`: `n = 4 h + j`. -/
abbrev qYS (n : Fin 12) : DmaSem sig := ⟨9 + n.val, by have := n.isLt; show _ < 57; omega⟩
abbrev qYR (n : Fin 12) : DmaSem sig := ⟨21 + n.val, by have := n.isLt; show _ < 57; omega⟩
abbrev qXS (n : Fin 12) : DmaSem sig := ⟨33 + n.val, by have := n.isLt; show _ < 57; omega⟩
abbrev qXR (n : Fin 12) : DmaSem sig := ⟨45 + n.val, by have := n.isLt; show _ < 57; omega⟩

/-! ## The pure operations -/

/-- A block of the product. -/
def dotPay (a : Vec F S256x1024 .f32) (b : Vec F S1024x2048 .f32) : FVec F S256x2048 .f32 := k0_pay4 a b
/-- The running maximum after a block. -/
def updM (m : FVec F S256x1 .f32) (b : Vec F S256x2048 .f32) : FVec F S256x1 .f32 := k0_pay8 m b
/-- The running sum after a block. -/
def updS (m s : FVec F S256x1 .f32) (b : Vec F S256x2048 .f32) : FVec F S256x1 .f32 := k0_pay9 m s b
/-- A column over 128 lanes. -/
def wide (v : FVec F S256x1 .f32) : FVec F S1x256x128 .f32 :=
  shapeCast S1x256x128 (broadcastTo S256x128 (shapeCast S256x1 v shapeCasts_S256x1_S256x1) broadcasts_S256x1_S256x128) shapeCasts_S256x128_S1x256x128
/-- The offset the exponent is taken at, from the two statistics. -/
def offPay (m s : Vec F S1x512x1 .f32) : FVec F S512x1 .f32 := k0_pay48 m s
/-- A column block normalised. -/
def normPay (c : FVec F S512x1 .f32) (b : Vec F S512x2048 .f32) : FVec F S512x2048 .f32 := k0_pay50 c b

/-- The running maximum and sum. -/
abbrev St (F : FTy → Type) : Type := FVec F S256x1 .f32 × FVec F S256x1 .f32
def st0 : St F := (k0_pay2, k0_pay3)
def upd (s : St F) (b : Vec F S256x2048 .f32) : St F := (updM s.1 b, updS s.1 s.2 b)

/-! ## The stages -/

theorem wE {κ : Kind} {sp : Space} {s : Shape} (M : Memref sig κ sp s .f32) : M.view.WordExact := View.wordExact_bits rfl

/-- Copy `W`'s columns in, multiply the rows of `x` at `xo` by them, copy the product to `dst`. -/
def gemm (wo : Fin 2 → Nat) (hw : ∀ a, wo a + S1024x2048.size a ≤ S1024x8192.size a)
    (xo : Fin 2 → Nat) (hx : ∀ a, xo a + S256x1024.size a ≤ S512x1024.size a)
    (o : Fin 2 → Nat) (ho : ∀ a, o a + S256x2048.size a ≤ S512x32768.size a) (k : P F) : P F :=
  .op (.enqueueDma (wAt wo hw) (.here wtM) (.dma qW) (wE _) (wE _) ⟨Or.inl rfl, trivial⟩) fun _ =>
  .op (.waitDma2 qW (wAt wo hw) wtM (wE _) (wE _)) fun _ =>
  .op (.load xM (xRect xo hx).toLoadRect (View.loadsAt_vmem h_S256x1024)) fun a =>
  .op (.load wtM wtRect.toLoadRect (View.loadsAt_vmem h_S1024x2048)) fun b =>
  .op (.load tM halfRect.toLoadRect (View.loadsAt_vmem h_S256x2048)) fun _ =>
  .op (.store tM halfRect (dotPay a b) Finset.univ (View.stores_vmem_bits_univ h_S256x2048 rfl) (.inl rfl)) fun _ =>
  .op (.enqueueDma tHalf (.here (slabAt o ho)) (.dma qLoc) (wE _) (wE _) ⟨Or.inl rfl, trivial⟩) fun _ =>
  .op (.waitDma2 qLoc tHalf (slabAt o ho) (wE _) (wE _)) fun _ => k

/-- Send the half slab at `o` to device `n`'s same half slab. -/
def send (n : Dev nD) (o : Fin 2 → Nat) (ho : ∀ a, o a + S256x2048.size a ≤ S512x32768.size a) (qs qr : DmaSem sig) (k : P F) : P F :=
  .op (.enqueueDma (slabAt o ho) (.remote (Dev.tc n) (slabAt o ho) (.dma qs)) (.dma qr) (wE _) (wE _) ⟨⟨rfl, Or.inl rfl⟩, trivial⟩) fun _ => k

/-- Wait for a transfer of the half slab at `o`. -/
def await (q : DmaSem sig) (o : Fin 2 → Nat) (ho : ∀ a, o a + S256x2048.size a ≤ S512x32768.size a) (k : P F) : P F :=
  .op (.waitDma2 q (slabAt o ho) (slabAt o ho) (wE _) (wE _)) fun _ => k

/-- Read the half slab at `o` through the statistics tile. -/
def fold (o : Fin 2 → Nat) (ho : ∀ a, o a + S256x2048.size a ≤ S512x32768.size a) (k : Vec F S256x2048 .f32 → P F) : P F :=
  .op (.enqueueDma (slabAt o ho) (.here stM) (.dma qLoc) (wE _) (wE _) ⟨Or.inl rfl, trivial⟩) fun _ =>
  .op (.waitDma2 qLoc (slabAt o ho) stM (wE _) (wE _)) fun _ =>
  .op (.load stM stRect.toLoadRect (View.loadsAt_vmem h_S256x2048)) k

/-- Read the half slab at `o` through the second tile. -/
def fold2 (o : Fin 2 → Nat) (ho : ∀ a, o a + S256x2048.size a ≤ S512x32768.size a) (k : Vec F S256x2048 .f32 → P F) : P F :=
  .op (.enqueueDma (slabAt o ho) (.here t2Half) (.dma qLoc) (wE _) (wE _) ⟨Or.inl rfl, trivial⟩) fun _ =>
  .op (.waitDma2 qLoc (slabAt o ho) t2Half (wE _) (wE _)) fun _ =>
  .op (.load t2M halfRect.toLoadRect (View.loadsAt_vmem h_S256x2048)) k

/-- Store one plane of the statistics at `o`. -/
def putStat (o : Fin 3 → Nat) (ho : ∀ a, o a + S1x256x128.size a ≤ S2x512x128.size a) (v : FVec F S256x1 .f32) (k : P F) : P F :=
  .op (.load ssM (Rect.unit (s := S2x512x128) o S1x256x128.size ho).toLoadRect (View.loadsAt_vmem h_S1x256x128)) fun _ =>
  .op (.store ssM (Rect.unit (s := S2x512x128) o S1x256x128.size ho) (wide v) Finset.univ (View.stores_vmem_bits_univ h_S1x256x128 rfl) (.inl rfl)) fun _ => k

/-- Exchange the statistics' rows with device `n`, and read both planes. -/
def swapStats (n : Dev nD) (o : Fin 3 → Nat) (ho : ∀ a, o a + S2x256x128.size a ≤ S2x512x128.size a)
    (k : Vec F S1x512x1 .f32 → Vec F S1x512x1 .f32 → P F) : P F :=
  .op (.enqueueDma (statAt o ho) (.remote (Dev.tc n) (statAt o ho) (.dma qStS)) (.dma qStR) (wE _) (wE _) ⟨⟨rfl, Or.inl rfl⟩, trivial⟩) fun _ =>
  .op (.waitDma2 qStS (statAt o ho) (statAt o ho) (wE _) (wE _)) fun _ =>
  .op (.waitDma2 qStR (statAt o ho) (statAt o ho) (wE _) (wE _)) fun _ =>
  .op (.load ssM (Rect.unit (s := S2x512x128) ![0, 0, 0] S1x512x1.size inb_S2x512x128_S1x512x1_0_0_0).toLoadRect (View.loadsAt_vmem h_S1x512x1)) fun a =>
  .op (.load ssM (Rect.unit (s := S2x512x128) ![1, 0, 0] S1x512x1.size inb_S2x512x128_S1x512x1_1_0_0).toLoadRect (View.loadsAt_vmem h_S1x512x1)) fun b => k a b

/-- The two tiles by name. -/
abbrev bufM : Bool → Memref sig .tc .vmem S512x2048 .f32 | false => tM | true => t2M

/-- A column block's offset, inside the result. -/
abbrev Col : Type := { o : Fin 2 → Nat // ∀ a, o a + S512x2048.size a ≤ S512x32768.size a }
abbrev Col.m (c : Col) : Memref sig .tc .hbm S512x2048 .f32 := colAt c.1 c.2

def loadCol (b : Bool) (c : Col) (k : P F) : P F :=
  .op (.enqueueDma c.m (.here (bufM b)) (.dma (qIn b)) (wE _) (wE _) ⟨Or.inl (by cases b <;> rfl), trivial⟩) fun _ => k
def loadedCol (b : Bool) (c : Col) (k : P F) : P F :=
  .op (.waitDma2 (qIn b) c.m (bufM b) (wE _) (wE _)) fun _ => k
def normCol (b : Bool) (v : FVec F S512x1 .f32) (k : P F) : P F :=
  .op (.load (bufM b) wholeRect.toLoadRect (View.loadsAt_vmem h_S512x2048)) fun t =>
  .op (.load (bufM b) wholeRect.toLoadRect (View.loadsAt_vmem h_S512x2048)) fun _ =>
  .op (.store (bufM b) wholeRect (normPay v t) Finset.univ (View.stores_vmem_bits_univ h_S512x2048 rfl) (.inl rfl)) fun _ => k
def storeCol (b : Bool) (c : Col) (k : P F) : P F :=
  .op (.enqueueDma (bufM b) (.here c.m) (.dma (qOut b)) (wE _) (wE _) ⟨Or.inl (by cases b <;> rfl), trivial⟩) fun _ => k
def storedCol (b : Bool) (c : Col) (k : P F) : P F :=
  .op (.waitDma2 (qOut b) (bufM b) c.m (wE _) (wE _)) fun _ => k

/-- `f` passes of a stage over the counter, from `i` on, threading a value. -/
def loop {A : Type} (body : Nat → A → (A → P F) → P F) : Nat → Nat → A → (A → P F) → P F
  | 0, _, a, k => k a
  | f + 1, i, a, k => body i a fun a' => loop body f (i + 1) a' k

/-- The tile of the column `i`: the first at the even ones. -/
abbrev par (i : Nat) : Bool := i % 2 == 1

/-- The normalising loop over the columns `col 0, …, col (f + 2)`: while one tile is worked on the other is stored and loaded. -/
def normLoop (v : FVec F S512x1 .f32) (col : Nat → Col) (f : Nat) (k : P F) : P F :=
  loadCol false (col 0) <| loadedCol false (col 0) <| loadCol true (col 1) <| normCol false v <| storeCol false (col 0) <|
  loop (fun i (_ : Unit) k => loadedCol (par i) (col i) <| storedCol (!par i) (col (i - 1)) <| loadCol (!par i) (col (i + 1)) <|
    normCol (par i) v <| storeCol (par i) (col i) <| k ()) f 1 () fun _ =>
  loadedCol (par (f + 1)) (col (f + 1)) <| normCol (par (f + 1)) v <| storeCol (par (f + 1)) (col (f + 1)) <|
    storedCol (!par (f + 1)) (col f) <| storedCol (par (f + 1)) (col (f + 1)) k

/-- One unit to device `n`'s barrier semaphore. -/
def signal (n : Dev nD) (k : P F) : P F := .op (.semSignal (Dev.tc n) barrier0 (1#32).toInt) fun _ => k

/-! ## The offsets, as the kernel computes them -/

abbrev f4 (i : Nat) : Fin 4 := ⟨i % 4, Nat.mod_lt _ (by decide)⟩
abbrev f12 (i : Nat) : Fin 12 := ⟨i % 12, Nat.mod_lt _ (by decide)⟩
/-- The hop `h` of the counter `i = 4 h + j`, counted from the last. -/
abbrev hop (i : Nat) : Fin 3 := ⟨2 - i % 12 / 4, by omega⟩

/-- `W`'s block `j`. -/
def oW (j : Nat) : Fin 2 → Nat := ![0, 2048 * (f4 j).val]
theorem oW_inb (j : Nat) : ∀ a, oW j a + S1024x2048.size a ≤ S1024x8192.size a := by
  have h : ∀ j : Fin 4, ∀ a, (![0, 2048 * j.val] : Fin 2 → Nat) a + S1024x2048.size a ≤ S1024x8192.size a := by decide
  exact h (f4 j)
/-- The half slab of the own rows, own chunk, block `j`. -/
def oOwn (d : Dev nD) (j : Nat) : Fin 2 → Nat := k0_off2 d (BitVec.ofNat 32 (2048 * (f4 j).val))
theorem oOwn_inb (d : Dev nD) (j : Nat) : ∀ a, oOwn d j a + S256x2048.size a ≤ S512x32768.size a := k0_off2_inb d (f4 j)
/-- The half slab that arrives `i`-th, of the own rows. -/
def oGot (d : Dev nD) (i : Nat) : Fin 2 → Nat := k0_off3 d (BitVec.ofNat 32 (1 + (hop i).val)) (BitVec.ofNat 32 (2048 * (f4 i).val))
theorem oGot_inb (d : Dev nD) (i : Nat) : ∀ a, oGot d i a + S256x2048.size a ≤ S512x32768.size a := k0_off3_inb d (hop i) (f4 i)
/-- The half slab the device sends `i`-th round the ring. -/
def oSrc (d : Dev nD) (i : Nat) : Fin 2 → Nat := if i < 4 then oOwn d i else oGot d (i - 4)
theorem oSrc_inb (d : Dev nD) (i : Nat) : ∀ a, oSrc d i a + S256x2048.size a ≤ S512x32768.size a := by
  unfold oSrc; split
  · exact oOwn_inb d i
  · exact oGot_inb d (i - 4)
/-- The half slab of the other rows, own chunk, block `j`. -/
def oOth (d : Dev nD) (j : Nat) : Fin 2 → Nat := k0_off5 d (BitVec.ofNat 32 (2048 * (f4 j).val))
theorem oOth_inb (d : Dev nD) (j : Nat) : ∀ a, oOth d j a + S256x2048.size a ≤ S512x32768.size a := k0_off5_inb d (f4 j)
def cOwn (d : Dev nD) (j : Nat) : Col := ⟨k0_off9 d (BitVec.ofNat 32 (2048 * (f4 j).val)), k0_off9_inb d (f4 j)⟩
def cGot (d : Dev nD) (i : Nat) : Col :=
  ⟨k0_off10 d (BitVec.ofNat 32 (1 + (hop i).val)) (BitVec.ofNat 32 (2048 * (f4 i).val)), k0_off10_inb d (hop i) (f4 i)⟩

abbrev dL (d : Dev nD) : Dev nD := ⟨k0_dev1 d, k0_dev1_lt d⟩
abbrev dR (d : Dev nD) : Dev nD := ⟨k0_dev4 d, k0_dev4_lt d⟩
abbrev dP (d : Dev nD) : Dev nD := ⟨k0_dev9 d, k0_dev9_lt d⟩

/-! ## The whole -/

/-- The own block `j`: computed, copied out, sent to the right. -/
def ownStage (d : Dev nD) (j : Nat) (_ : Unit) (k : Unit → P F) : P F :=
  gemm (oW j) (oW_inb j) (k0_off1 d) (k0_off1_inb d) (oOwn d j) (oOwn_inb d j) <|
  send (dR d) (oOwn d j) (oOwn_inb d j) (qYS (f12 j)) (qYR (f12 j)) <| k ()

/-- What comes first when the `i`-th half slab arrives: it is sent on to the pair and folded in. -/
def landed (d : Dev nD) (i : Nat) (s : St F) (k : St F → P F) : P F :=
  send (dP d) (oGot d i) (oGot_inb d i) (qXS (f12 i)) (qXR (f12 i)) <|
  fold (oGot d i) (oGot_inb d i) fun b => k (upd s b)

/-- The arrival `i < 8`, which is relayed to the right; at the even ones a block of the other half is computed. -/
def relayStage (d : Dev nD) (i : Nat) (s : St F) (k : St F → P F) : P F :=
  await (qYR (f12 i)) (oSrc d i) (oSrc_inb d i) <|
  send (dR d) (oGot d i) (oGot_inb d i) (qYS (f12 (i + 4))) (qYR (f12 (i + 4))) <|
  landed d i s fun s =>
  if i % 2 = 0 then gemm (oW (i / 2)) (oW_inb _) (k0_off4 d) (k0_off4_inb d) (oOth d (i / 2)) (oOth_inb d _) (k s) else k s

/-- The arrival `i ≥ 8`, the last hop: an own block is folded in after it. -/
def lastStage (d : Dev nD) (i : Nat) (s : St F) (k : St F → P F) : P F :=
  await (qYR (f12 i)) (oSrc d i) (oSrc_inb d i) <|
  landed d i s fun s => fold2 (oOwn d (i - 8)) (oOwn_inb d _) fun b => k (upd s b)

/-- The kernel at device `d`. -/
def prog (d : Dev nD) : P F :=
  signal (dL d) <| signal (dR d) <| signal (dP d) <|
  .op (.semWait barrier0 (3#32).toInt) fun _ =>
  loop (ownStage d) 4 0 () fun _ =>
  loop (relayStage d) 8 0 st0 fun s =>
  loop (lastStage d) 4 8 s fun s =>
  putStat (k0_off6 d) (k0_off6_inb d) s.1 <| putStat (k0_off7 d) (k0_off7_inb d) s.2 <|
  swapStats (dP d) (k0_off8 d) (k0_off8_inb d) fun a b =>
  loop (fun j (_ : Unit) k => await (qYS (f12 j)) (oSrc d j) (oSrc_inb d j) (k ())) 4 0 () fun _ =>
  normLoop (offPay a b) (cOwn d) 2 <|
  loop (fun i (_ : Unit) k => await (qXR (f12 i)) (oGot d i) (oGot_inb d i) (k ())) 12 0 () fun _ =>
  loop (fun i (_ : Unit) k => await (qYS (f12 i)) (oSrc d i) (oSrc_inb d i) (k ())) 8 4 () fun _ =>
  loop (fun i (_ : Unit) k => await (qXS (f12 i)) (oGot d i) (oGot_inb d i) (k ())) 12 0 () fun _ =>
  normLoop (offPay a b) (cGot d) 10 <| .ret ⟨⟩

/-- The printed body on the call's own buffers. -/
abbrev bodyC : P F :=
  cc0_body xM (Memref.isWhole_whole _) wM (Memref.isWhole_whole _) oM (Memref.isWhole_whole _) tM (Memref.isWhole_whole _)
    t2M (Memref.isWhole_whole _) wtM (Memref.isWhole_whole _) stM (Memref.isWhole_whole _) ssM (Memref.isWhole_whole _)
    cc0_scratch5 cc0_scratch6 cc0_scratch7 cc0_scratch8 cc0_scratch9 cc0_scratch10 cc0_scratch11 cc0_scratch12

set_option maxRecDepth 65536 in
set_option maxHeartbeats 4000000 in
theorem body_eq : (bodyC : P F) = .op .deviceId fun d => prog d := by
  rfl

end Cert.Softmax

end
-- ==== Proof.Slabs.lean ====
/-
# The half slabs of the result, in closed form

The result has 512 rows and 32768 columns. It is cut into two halves of 256 rows and sixteen blocks of 2048
columns. Device `d` of the mesh stands at row `d / 4` and column `d % 4`; it computes the four blocks of its
column, and the others reach it in the order `blk d 4, …, blk d 15`. Here each offset of the kernel's text is
put in this form, and the element sets of the half slabs and column blocks are described.
-/
module

public import proofs.«01_k».proof.Proof.Program
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.Softmax

open Cert.KernelIdeal Cert.KernelIdeal.Gen
open Idealize.ShloMosaic Idealize.ShloMosaic.TcCoe Idealize.SL.Sem

/-! ## Devices -/

/-- The half of the rows device `d` computes; the other half. -/
def half (d : Dev nD) : Fin 2 := ⟨d.val / 4, by have := d.isLt; change d.val < 8 at this; omega⟩
def halfO (d : Dev nD) : Fin 2 := ⟨1 - d.val / 4, by omega⟩
/-- The ring's neighbours of `d`, and the device it is paired with. -/
def nR (d : Dev nD) : Dev nD := ⟨4 * (d.val / 4) + (d.val % 4 + 1) % 4, by have := d.isLt; change d.val < 8 at this; show _ < 8; omega⟩
def nL (d : Dev nD) : Dev nD := ⟨4 * (d.val / 4) + (d.val % 4 + 3) % 4, by have := d.isLt; change d.val < 8 at this; show _ < 8; omega⟩
def nP (d : Dev nD) : Dev nD := ⟨d.val % 4 + 4 - 4 * (d.val / 4), by have := d.isLt; change d.val < 8 at this; show _ < 8; omega⟩

theorem dL_eq (d : Dev nD) : dL d = nL d := Fin.ext (k0_dev1_eq d)
theorem dR_eq (d : Dev nD) : dR d = nR d := Fin.ext (k0_dev4_eq d)
theorem dP_eq (d : Dev nD) : dP d = nP d := Fin.ext (k0_dev9_eq d)

theorem nR_nL (d : Dev nD) : nR (nL d) = d := by revert d; decide
theorem nL_nR (d : Dev nD) : nL (nR d) = d := by revert d; decide
theorem nP_nP (d : Dev nD) : nP (nP d) = d := by revert d; decide
theorem half_nR (d : Dev nD) : half (nR d) = half d := by revert d; decide
theorem half_nL (d : Dev nD) : half (nL d) = half d := by revert d; decide
theorem half_nP (d : Dev nD) : half (nP d) = halfO d := by revert d; decide
theorem halfO_nP (d : Dev nD) : halfO (nP d) = half d := by revert d; decide
theorem half_add (d : Dev nD) : (half d).val + (halfO d).val = 1 := by revert d; decide
theorem half_ne (d : Dev nD) : half d ≠ halfO d := by revert d; decide

/-- The block of columns device `d` has at the place `i`: its own four, then in the order of arrival. -/
def blk (d : Dev nD) (i : Nat) : Fin 16 := ⟨4 * ((d.val % 4 + 4 - i / 4) % 4) + i % 4, by omega⟩

theorem blk_nR (d : Dev nD) (i : Nat) (hi : i < 12) : blk (nR d) (i + 4) = blk d i := by
  have h : ∀ d : Dev nD, ∀ i : Fin 12, blk (nR d) (i.val + 4) = blk d i.val := by decide
  exact h d ⟨i, hi⟩
theorem blk_nP (d : Dev nD) (i : Nat) : blk (nP d) i = blk d i := by
  have : (nP d).val % 4 = d.val % 4 := by revert d; decide
  unfold blk; rw [Fin.mk.injEq, this]
theorem blk_inj (d : Dev nD) {i j : Nat} (hi : i < 16) (hj : j < 16) (h : blk d i = blk d j) : i = j := by
  have H : ∀ d : Dev nD, ∀ i j : Fin 16, blk d i.val = blk d j.val → i = j := by decide
  exact congrArg Fin.val (H d ⟨i, hi⟩ ⟨j, hj⟩ h)
theorem blk_surj (d : Dev nD) (b : Fin 16) : ∃ i < 16, blk d i = b := by
  have H : ∀ d : Dev nD, ∀ b : Fin 16, ∃ i : Fin 16, blk d i.val = b := by decide
  obtain ⟨i, hi⟩ := H d b
  exact ⟨i.val, i.isLt, hi⟩

/-! ## Offsets -/

def slabO (a : Fin 2) (b : Fin 16) : Fin 2 → Nat := ![256 * a.val, 2048 * b.val]
theorem slabO_inb (a : Fin 2) (b : Fin 16) : ∀ x, slabO a b x + S256x2048.size x ≤ S512x32768.size x := by
  revert a b; decide
def colO (b : Fin 16) : Fin 2 → Nat := ![0, 2048 * b.val]
theorem colO_inb (b : Fin 16) : ∀ x, colO b x + S512x2048.size x ≤ S512x32768.size x := by
  revert b; decide
def statO (a : Fin 2) : Fin 3 → Nat := ![0, 256 * a.val, 0]
theorem statO_inb (a : Fin 2) : ∀ x, statO a x + S2x256x128.size x ≤ S2x512x128.size x := by
  revert a; decide
/-- One plane's rows of the statistics. -/
def planeO (p a : Fin 2) : Fin 3 → Nat := ![p.val, 256 * a.val, 0]
theorem planeO_inb (p a : Fin 2) : ∀ x, planeO p a x + S1x256x128.size x ≤ S2x512x128.size x := by
  revert p a; decide
/-- Rows of `x`. -/
def rowO (a : Fin 2) : Fin 2 → Nat := ![256 * a.val, 0]
theorem rowO_inb (a : Fin 2) : ∀ x, rowO a x + S256x1024.size x ≤ S512x1024.size x := by
  revert a; decide

abbrev slab (a : Fin 2) (b : Fin 16) : Memref sig .tc .hbm S256x2048 .f32 := slabAt (slabO a b) (slabO_inb a b)
abbrev col (b : Fin 16) : Memref sig .tc .hbm S512x2048 .f32 := colAt (colO b) (colO_inb b)
abbrev stat (a : Fin 2) : Memref sig .tc .vmem S2x256x128 .f32 := statAt (statO a) (statO_inb a)
abbrev wBlk (j : Nat) : Memref sig .tc .hbm S1024x2048 .f32 := wAt (oW j) (oW_inb j)

theorem oOwn_eq (d : Dev nD) {j : Nat} (hj : j < 4) : oOwn d j = slabO (half d) (blk d j) := by
  unfold oOwn; rw [k0_off2_eq d (f4 j)]
  have h : ∀ d : Dev nD, ∀ j : Fin 4, (![256 * (d.val / 4), 8192 * (d.val % 4) + 2048 * (f4 j.val).val] : Fin 2 → Nat) = slabO (half d) (blk d j.val) := by decide
  exact h d ⟨j, hj⟩
theorem oGot_eq (d : Dev nD) {i : Nat} (hi : i < 12) : oGot d i = slabO (half d) (blk d (i + 4)) := by
  unfold oGot; rw [k0_off3_eq d (hop i) (f4 i)]
  have h : ∀ d : Dev nD, ∀ i : Fin 12, (![256 * (d.val / 4), 8192 * (((d.val % 4) + (hop i.val).val + 1) % 4) + 2048 * (f4 i.val).val] : Fin 2 → Nat)
      = slabO (half d) (blk d (i.val + 4)) := by decide
  exact h d ⟨i, hi⟩
theorem oSrc_eq (d : Dev nD) {i : Nat} (hi : i < 12) : oSrc d i = slabO (half d) (blk d i) := by
  unfold oSrc; split
  · next h => exact oOwn_eq d h
  · next h => rw [oGot_eq d (by omega), Nat.sub_add_cancel (by omega)]
theorem oOth_eq (d : Dev nD) {j : Nat} (hj : j < 4) : oOth d j = slabO (halfO d) (blk d j) := by
  unfold oOth; rw [k0_off5_eq d (f4 j)]
  have h : ∀ d : Dev nD, ∀ j : Fin 4, (![256 - 256 * (d.val / 4), 8192 * (d.val % 4) + 2048 * (f4 j.val).val] : Fin 2 → Nat) = slabO (halfO d) (blk d j.val) := by decide
  exact h d ⟨j, hj⟩
theorem cOwn_eq (d : Dev nD) {j : Nat} (hj : j < 4) : cOwn d j = ⟨colO (blk d j), colO_inb _⟩ := by
  refine Subtype.ext ?_
  show k0_off9 d _ = _
  rw [k0_off9_eq d (f4 j)]
  have h : ∀ d : Dev nD, ∀ j : Fin 4, (![0, 8192 * (d.val % 4) + 2048 * (f4 j.val).val] : Fin 2 → Nat) = colO (blk d j.val) := by decide
  exact h d ⟨j, hj⟩
theorem cGot_eq (d : Dev nD) {i : Nat} (hi : i < 12) : cGot d i = ⟨colO (blk d (i + 4)), colO_inb _⟩ := by
  refine Subtype.ext ?_
  show k0_off10 d _ _ = _
  rw [k0_off10_eq d (hop i) (f4 i)]
  have h : ∀ d : Dev nD, ∀ i : Fin 12, (![0, 8192 * (((d.val % 4) + (hop i.val).val + 1) % 4) + 2048 * (f4 i.val).val] : Fin 2 → Nat)
      = colO (blk d (i.val + 4)) := by decide
  exact h d ⟨i, hi⟩
theorem rowOwn_eq (d : Dev nD) : k0_off1 d = rowO (half d) := (k0_off1_eq d).trans (by revert d; decide)
theorem rowOth_eq (d : Dev nD) : k0_off4 d = rowO (halfO d) := (k0_off4_eq d).trans (by revert d; decide)
theorem plane0_eq (d : Dev nD) : k0_off6 d = planeO 0 (half d) := (k0_off6_eq d).trans (by revert d; decide)
theorem plane1_eq (d : Dev nD) : k0_off7 d = planeO 1 (half d) := (k0_off7_eq d).trans (by revert d; decide)
theorem stat_eq (d : Dev nD) : k0_off8 d = statO (half d) := (k0_off8_eq d).trans (by revert d; decide)

/-! ## Element sets -/

theorem slab_set (a : Fin 2) (b : Fin 16) : (slab a b).view.set = (Rect.unit (s := S512x32768) (slabO a b) S256x2048.size (slabO_inb a b)).set :=
  View.set_slice_whole _ _
theorem col_set (b : Fin 16) : (col b).view.set = (Rect.unit (s := S512x32768) (colO b) S512x2048.size (colO_inb b)).set :=
  View.set_slice_whole _ _
theorem stat_set (a : Fin 2) : (stat a).view.set = (Rect.unit (s := S2x512x128) (statO a) S2x256x128.size (statO_inb a)).set :=
  View.set_slice_whole _ _

theorem mem_slab {a : Fin 2} {b : Fin 16} {i : S512x32768.Idx} :
    i ∈ (slab a b).view.set ↔ (256 * a.val ≤ (i 0).val ∧ (i 0).val < 256 * a.val + 256) ∧ (2048 * b.val ≤ (i 1).val ∧ (i 1).val < 2048 * b.val + 2048) := by
  rw [slab_set, Rect.mem_set_unit]
  exact ⟨fun h => ⟨h 0, h 1⟩, fun h x => match x with | 0 => h.1 | 1 => h.2⟩
theorem mem_col {b : Fin 16} {i : S512x32768.Idx} :
    i ∈ (col b).view.set ↔ 2048 * b.val ≤ (i 1).val ∧ (i 1).val < 2048 * b.val + 2048 := by
  rw [col_set, Rect.mem_set_unit]
  refine ⟨fun h => h 1, fun h x => match x with | 0 => ⟨Nat.zero_le _, ?_⟩ | 1 => h⟩
  exact lt_of_lt_of_eq (i 0).isLt rfl
theorem mem_stat {a : Fin 2} {i : S2x512x128.Idx} :
    i ∈ (stat a).view.set ↔ 256 * a.val ≤ (i 1).val ∧ (i 1).val < 256 * a.val + 256 := by
  rw [stat_set, Rect.mem_set_unit]
  refine ⟨fun h => h 1, fun h x => match x with | 0 => ⟨Nat.zero_le _, ?_⟩ | 1 => h | 2 => ⟨Nat.zero_le _, ?_⟩⟩
  · exact lt_of_lt_of_eq (i 0).isLt rfl
  · exact lt_of_lt_of_eq (i 2).isLt rfl

theorem slab_disj (d : Dev nD) (b : Fin 16) : Disjoint (slab (half d) b).view.set (slab (halfO d) b).view.set := by
  rw [Finset.disjoint_left]
  intro i h1 h2
  rw [mem_slab] at h1 h2
  have hh : (half d).val ≠ (halfO d).val := fun e => half_ne d (Fin.ext e)
  omega
theorem col_halves (d : Dev nD) (b : Fin 16) : (slab (half d) b).view.set ∪ (slab (halfO d) b).view.set = (col b).view.set := by
  ext i
  rw [Finset.mem_union, mem_slab, mem_slab, mem_col]
  have h0 : (i 0).val < 512 := (i 0).isLt
  have hh := half_add d
  omega
theorem col_disj {b b' : Fin 16} (h : b ≠ b') : Disjoint (col b).view.set (col b').view.set := by
  rw [Finset.disjoint_left]
  intro i h1 h2
  rw [mem_col] at h1 h2
  have : b.val ≠ b'.val := fun e => h (Fin.ext e)
  omega
theorem col_union (d : Dev nD) : (Finset.range 16).biUnion (fun i => (col (blk d i)).view.set) = (Finset.univ : Finset S512x32768.Idx) := by
  ext i
  refine ⟨fun _ => Finset.mem_univ _, fun _ => ?_⟩
  have h1 : (i 1).val < 32768 := (i 1).isLt
  obtain ⟨k, hk, e⟩ := blk_surj d ⟨(i 1).val / 2048, by omega⟩
  refine Finset.mem_biUnion.mpr ⟨k, Finset.mem_range.mpr hk, ?_⟩
  rw [e, mem_col]
  show 2048 * ((i 1).val / 2048) ≤ _ ∧ _ < 2048 * ((i 1).val / 2048) + 2048
  omega
theorem stat_disj (d : Dev nD) : Disjoint (stat (half d)).view.set (stat (halfO d)).view.set := by
  rw [Finset.disjoint_left]
  intro i h1 h2
  rw [mem_stat] at h1 h2
  have hh : (half d).val ≠ (halfO d).val := fun e => half_ne d (Fin.ext e)
  omega
theorem stat_halves (d : Dev nD) : (stat (half d)).view.set ∪ (stat (halfO d)).view.set = (Finset.univ : Finset S2x512x128.Idx) := by
  ext i
  refine ⟨fun _ => Finset.mem_univ _, fun _ => ?_⟩
  rw [Finset.mem_union, mem_stat, mem_stat]
  have h0 : (i 1).val < 512 := (i 1).isLt
  have hh := half_add d
  omega
/-- A store of one plane's rows lies in the rows. -/
theorem plane_subset (p a : Fin 2) : (ssM.access (Rect.unit (s := S2x512x128) (planeO p a) S1x256x128.size (planeO_inb p a)) : View sig .tc _ _ _).set ⊆ (stat a).view.set := by
  intro i hi
  have hi' : i ∈ (Rect.unit (s := S2x512x128) (planeO p a) S1x256x128.size (planeO_inb p a)).set := by
    rwa [show (ssM.access (Rect.unit (s := S2x512x128) (planeO p a) S1x256x128.size (planeO_inb p a)) : View sig .tc _ _ _).set = _ from View.set_slice_whole _ _] at hi
  rw [Rect.mem_set_unit] at hi'
  exact mem_stat.mpr (hi' 1)

end Cert.Softmax

end
-- ==== Proof.Contents.lean ====
/-
# What the buffers hold

From the devices' inputs `X` (the block of `x`) and `W` (the block of `W`): the blocks of the product (`prodBlk`), the result's
buffer when all of them have arrived (`logits`), the running maximum and sum in the order of arrival (`stAt`), the statistics of
both halves (`stats`), and the result's buffer at the end (`final`). Each comes with what the kernel's own views read of it.
-/
module

public import proofs.«01_k».proof.Proof.Slabs

@[expose] public section

noncomputable section

namespace Cert.Softmax

open Cert.KernelIdeal Cert.KernelIdeal.Gen
open Idealize.ShloMosaic Idealize.ShloMosaic.TcCoe Idealize.SL.Sem

variable {F : FTy → Type} [FloatOps F] [Named F]

/-! ## Indices -/

def ij {d : Fin 2 → Nat} (r c : Nat) (hr : r < d 0) (hc : c < d 1) : (⟨2, d⟩ : Shape).Idx := fun a => match a with | 0 => ⟨r, hr⟩ | 1 => ⟨c, hc⟩

abbrev slabIx (r c : Nat) (hr : r < 256) (hc : c < 2048) : S256x2048.Idx := ij (d := ![256, 2048]) r c hr hc
abbrev colIx (r c : Nat) (hr : r < 512) (hc : c < 2048) : S512x2048.Idx := ij (d := ![512, 2048]) r c hr hc
def planeIx (r l : Nat) (hr : r < 256) (hl : l < 128) : S1x256x128.Idx := fun a => match a with | 0 => ⟨0, by decide⟩ | 1 => ⟨r, hr⟩ | 2 => ⟨l, hl⟩

/-- Two indices of a matrix with the same coordinates are the same. -/
theorem idx2_ext {d : Fin 2 → Nat} {x y : (⟨2, d⟩ : Shape).Idx} (h0 : (x 0).val = (y 0).val) (h1 : (x 1).val = (y 1).val) : x = y :=
  funext fun a => match a with | 0 => Fin.ext h0 | 1 => Fin.ext h1

/-! ## The product -/

variable (X : Dev nD → Vec F S512x1024 .f32) (W : Dev nD → Vec F S1024x8192 .f32)

/-- The device that computed device `c`'s half slab `(a, b)`: itself in its own column, else the one at row `a` of the block's. -/
def src (c : Dev nD) (a : Fin 2) (b : Fin 16) : Dev nD :=
  if b.val / 4 = c.val % 4 then c else ⟨4 * a.val + b.val / 4, by show _ < 8; omega⟩

def rows (a : Fin 2) (x : Vec F S512x1024 .f32) : Vec F S256x1024 .f32 := xM.view.readAt (Elt F) (xRect (rowO a) (rowO_inb a)).toLoadRect x
def wcols (j : Nat) (w : Vec F S1024x8192 .f32) : Vec F S1024x2048 .f32 := (wBlk j).view.read (Elt F) w

/-- Device `c`'s half slab `(a, b)` of the product. -/
def prodBlk (c : Dev nD) (a : Fin 2) (b : Fin 16) : FVec F S256x2048 .f32 :=
  dotPay (rows a (X (src c a b))) (wcols (b.val % 4) (W (src c a b)))

theorem src_own (c : Dev nD) (a : Fin 2) {j : Nat} (hj : j < 4) : src c a (blk c j) = c := by
  have h : ∀ c : Dev nD, ∀ a : Fin 2, ∀ j : Fin 4, src c a (blk c j.val) = c := by decide
  exact h c a ⟨j, hj⟩
theorem src_nR (c : Dev nD) {i : Nat} (hi : i < 12) : src (nR c) (half c) (blk c i) = src c (half c) (blk c i) := by
  have h : ∀ c : Dev nD, ∀ i : Fin 12, src (nR c) (half c) (blk c i.val) = src c (half c) (blk c i.val) := by decide
  exact h c ⟨i, hi⟩
theorem src_nP (c : Dev nD) {i : Nat} (hi : i < 12) : src (nP c) (half c) (blk c (i + 4)) = src c (half c) (blk c (i + 4)) := by
  have h : ∀ c : Dev nD, ∀ i : Fin 12, src (nP c) (half c) (blk c (i.val + 4)) = src c (half c) (blk c (i.val + 4)) := by decide
  exact h c ⟨i, hi⟩
theorem wcols_mod (j : Nat) (w : Vec F S1024x8192 .f32) : wcols (j % 4) w = wcols j w := by
  have h : ∀ k l : Nat, f4 k = f4 l → wcols k w = wcols l w := by
    intro k l e
    have e' : oW k = oW l := by unfold oW; rw [e]
    unfold wcols
    have : ∀ (o o' : Fin 2 → Nat) (h : ∀ a, o a + S1024x2048.size a ≤ S1024x8192.size a) (h' : ∀ a, o' a + S1024x2048.size a ≤ S1024x8192.size a),
        o = o' → (wAt o h).view.read (Elt F) w = (wAt o' h').view.read (Elt F) w := by rintro o _ h h' rfl; rfl
    exact this _ _ _ _ e'
  exact h _ _ (Fin.ext (Nat.mod_mod _ _))

/-- A block computed from the device's own inputs. -/
theorem prodBlk_own (c : Dev nD) (a : Fin 2) {j : Nat} (hj : j < 4) : prodBlk X W c a (blk c j) = dotPay (rows a (X c)) (wcols j (W c)) := by
  have h : (blk c j).val % 4 = j % 4 := by show (4 * _ + j % 4) % 4 = j % 4; omega
  unfold prodBlk; rw [src_own c a hj, h, wcols_mod]
theorem prodBlk_nR (c : Dev nD) {i : Nat} (hi : i < 12) : prodBlk X W (nR c) (half c) (blk c i) = prodBlk X W c (half c) (blk c i) := by
  unfold prodBlk; rw [src_nR c hi]
theorem prodBlk_nP (c : Dev nD) {i : Nat} (hi : i < 12) : prodBlk X W (nP c) (half c) (blk c (i + 4)) = prodBlk X W c (half c) (blk c (i + 4)) := by
  unfold prodBlk; rw [src_nP c hi]

/-- The result's buffer holding the whole product. -/
def logits (c : Dev nD) : Vec F S512x32768 .f32 := fun i =>
  prodBlk X W c ⟨(i 0).val / 256, by have : (i 0).val < 512 := (i 0).isLt; omega⟩ ⟨(i 1).val / 2048, by have : (i 1).val < 32768 := (i 1).isLt; omega⟩
    (slabIx ((i 0).val % 256) ((i 1).val % 2048) (Nat.mod_lt _ (by decide)) (Nat.mod_lt _ (by decide)))

/-- Where an element of a half slab lies. -/
theorem slab_emb (a : Fin 2) (b : Fin 16) (x : S256x2048.Idx) :
    (((slab a b).view.emb x : S512x32768.Idx) 0).val = 256 * a.val + (x 0).val ∧ (((slab a b).view.emb x : S512x32768.Idx) 1).val = 2048 * b.val + (x 1).val :=
  ⟨ValueKit.view_emb_slice_whole_unit_val main_v1 _ _ (slabO_inb a b) x 0, ValueKit.view_emb_slice_whole_unit_val main_v1 _ _ (slabO_inb a b) x 1⟩
theorem col_emb (b : Fin 16) (x : S512x2048.Idx) :
    (((col b).view.emb x : S512x32768.Idx) 0).val = (x 0).val ∧ (((col b).view.emb x : S512x32768.Idx) 1).val = 2048 * b.val + (x 1).val :=
  ⟨(ValueKit.view_emb_slice_whole_unit_val main_v1 _ _ (colO_inb b) x 0).trans (Nat.zero_add _), ValueKit.view_emb_slice_whole_unit_val main_v1 _ _ (colO_inb b) x 1⟩
theorem stat_emb (a : Fin 2) (x : S2x256x128.Idx) :
    (((stat a).view.emb x : S2x512x128.Idx) 0).val = (x 0).val ∧ (((stat a).view.emb x : S2x512x128.Idx) 1).val = 256 * a.val + (x 1).val
      ∧ (((stat a).view.emb x : S2x512x128.Idx) 2).val = (x 2).val :=
  ⟨(ValueKit.view_emb_slice_whole_unit_val cc0_scratch4 _ _ (statO_inb a) x 0).trans (Nat.zero_add _), ValueKit.view_emb_slice_whole_unit_val cc0_scratch4 _ _ (statO_inb a) x 1,
    (ValueKit.view_emb_slice_whole_unit_val cc0_scratch4 _ _ (statO_inb a) x 2).trans (Nat.zero_add _)⟩

theorem prodBlk_congr (c : Dev nD) {a a' : Fin 2} {b b' : Fin 16} {x x' : S256x2048.Idx} (ha : a = a') (hb : b = b') (hx : x = x') :
    prodBlk X W c a b x = prodBlk X W c a' b' x' := by subst ha hb hx; rfl

/-- A half slab of the buffer is the block. -/
theorem read_logits (c : Dev nD) (a : Fin 2) (b : Fin 16) : (slab a b).view.read (Elt F) (logits X W c) = prodBlk X W c a b := by
  funext x
  obtain ⟨h0, h1⟩ := slab_emb a b x
  have x0 : (x 0).val < 256 := (x 0).isLt
  have x1 : (x 1).val < 2048 := (x 1).isLt
  show logits X W c ((slab a b).view.emb x) = _
  unfold logits
  refine prodBlk_congr X W c (Fin.ext ?_) (Fin.ext ?_) (idx2_ext ?_ ?_)
  · show _ / 256 = _; rw [h0]; omega
  · show _ / 2048 = _; rw [h1]; omega
  · show _ % 256 = (x 0).val; rw [h0]; omega
  · show _ % 2048 = (x 1).val; rw [h1]; omega

/-! ## The statistics -/

/-- The running maximum and sum after `i` arrivals. From the ninth on an own block follows each. -/
def stAt (c : Dev nD) : Nat → St F
  | 0 => st0
  | i + 1 => if i < 8 then upd (stAt c i) (prodBlk X W c (half c) (blk c (i + 4)))
      else upd (upd (stAt c i) (prodBlk X W c (half c) (blk c (i + 4)))) (prodBlk X W c (half c) (blk c (i - 8)))

/-- The maximum and the sum of the device's half of the rows. -/
def st (c : Dev nD) : St F := stAt X W c 12

/-- Device `e`'s plane `p` over 128 lanes. -/
def statVal (e : Dev nD) (p : Nat) : FVec F S1x256x128 .f32 := if p = 0 then wide (st X W e).1 else wide (st X W e).2

/-- The statistics of both halves, each plane over 128 lanes. -/
def stats (c : Dev nD) : Vec F S2x512x128 .f32 := fun i =>
  statVal X W (if (i 1).val / 256 = (half c).val then c else nP c) (i 0).val
    (planeIx ((i 1).val % 256) (i 2).val (Nat.mod_lt _ (by decide)) (lt_of_lt_of_eq (i 2).isLt rfl))

theorem statVal_congr {e e' : Dev nD} {p p' : Nat} {x x' : S1x256x128.Idx} (he : e = e') (hp : p = p') (hx : x = x') :
    statVal X W e p x = statVal X W e' p' x' := by subst he hp hx; rfl

/-- The rows one device sends are those its pair expects. -/
theorem read_stats_pair (c : Dev nD) : (stat (half c)).view.read (Elt F) (stats X W (nP c)) = (stat (half c)).view.read (Elt F) (stats X W c) := by
  funext x
  obtain ⟨h0, h1, h2⟩ := stat_emb (half c) x
  have x1 : (x 1).val < 256 := (x 1).isLt
  show stats X W (nP c) ((stat (half c)).view.emb x) = stats X W c ((stat (half c)).view.emb x)
  unfold stats
  have e1 : (((stat (half c)).view.emb x : S2x512x128.Idx) 1).val / 256 = (half c).val := by rw [h1]; omega
  have hh := half_add c
  refine statVal_congr X W ?_ rfl rfl
  rw [if_pos e1, if_neg (by rw [e1, half_nP]; omega), nP_nP]

/-- The two planes' stores. -/
abbrev plane (p a : Fin 2) : View sig .tc .vmem S1x256x128 .f32 := ssM.access (Rect.unit (s := S2x512x128) (planeO p a) S1x256x128.size (planeO_inb p a))

theorem plane_emb (p a : Fin 2) (x : S1x256x128.Idx) :
    (((plane p a).emb x : S2x512x128.Idx) 0).val = p.val + (x 0).val ∧ (((plane p a).emb x : S2x512x128.Idx) 1).val = 256 * a.val + (x 1).val
      ∧ (((plane p a).emb x : S2x512x128.Idx) 2).val = (x 2).val :=
  ⟨ValueKit.view_emb_slice_whole_unit_val cc0_scratch4 _ _ (planeO_inb p a) x 0, ValueKit.view_emb_slice_whole_unit_val cc0_scratch4 _ _ (planeO_inb p a) x 1,
    (ValueKit.view_emb_slice_whole_unit_val cc0_scratch4 _ _ (planeO_inb p a) x 2).trans (Nat.zero_add _)⟩

/-- After both planes are stored the device's rows hold the statistics. -/
theorem stored_stats (c : Dev nD) (f : Vec F S2x512x128 .f32) {i : S2x512x128.Idx} (hi : i ∈ (stat (half c)).view.set) :
    (plane 1 (half c)).write (Elt F) ((plane 0 (half c)).write (Elt F) f (wide (st X W c).1) Finset.univ) (wide (st X W c).2) Finset.univ i = stats X W c i := by
  rw [mem_stat] at hi
  have i0 : (i 0).val < 2 := (i 0).isLt
  have i2 : (i 2).val < 128 := (i 2).isLt
  have e1 : (i 1).val / 256 = (half c).val := by omega
  have key : ∀ p : Fin 2, (i 0).val = p.val → i = (plane p (half c)).emb (planeIx ((i 1).val % 256) (i 2).val (Nat.mod_lt _ (by decide)) (lt_of_lt_of_eq (i 2).isLt rfl)) := by
    intro p hp
    obtain ⟨g0, g1, g2⟩ := plane_emb p (half c) (planeIx ((i 1).val % 256) (i 2).val (Nat.mod_lt _ (by decide)) (lt_of_lt_of_eq (i 2).isLt rfl))
    funext a
    refine Fin.ext ?_
    match a with
    | 0 => exact hp.trans g0.symm
    | 1 => refine Eq.trans ?_ g1.symm; show _ = 256 * (half c).val + (i 1).val % 256; omega
    | 2 => exact g2.symm
  by_cases h : (i 0).val = 0
  · have hn : i ∉ (plane 1 (half c)).setOn Finset.univ := by
      intro hm
      obtain ⟨x, -, hx⟩ := Finset.mem_map.mp hm
      have := (plane_emb 1 (half c) x).1
      rw [hx] at this
      change (i 0).val = 1 + _ at this
      omega
    have e2 : stats X W c i = wide (st X W c).1 (planeIx ((i 1).val % 256) (i 2).val (Nat.mod_lt _ (by decide)) (lt_of_lt_of_eq (i 2).isLt rfl)) :=
      (statVal_congr X W (if_pos e1) h rfl).trans rfl
    rw [View.write_of_not_mem _ _ _ hn, e2]
    conv_lhs => rw [key 0 h]
    exact View.write_emb_of_mem _ _ (Finset.mem_univ _)
  · have h' : (i 0).val = 1 := by omega
    have e2 : stats X W c i = wide (st X W c).2 (planeIx ((i 1).val % 256) (i 2).val (Nat.mod_lt _ (by decide)) (lt_of_lt_of_eq (i 2).isLt rfl)) :=
      (statVal_congr X W (if_pos e1) h' rfl).trans rfl
    rw [e2]
    conv_lhs => rw [key 1 h']
    exact View.write_emb_of_mem _ _ (Finset.mem_univ _)

/-! ## The result -/

abbrev lane (p : Fin 2) : Rect S2x512x128 := match p with
  | 0 => Rect.unit (s := S2x512x128) ![0, 0, 0] S1x512x1.size inb_S2x512x128_S1x512x1_0_0_0
  | 1 => Rect.unit (s := S2x512x128) ![1, 0, 0] S1x512x1.size inb_S2x512x128_S1x512x1_1_0_0

/-- The offset the exponents are taken at, of all the rows. -/
def offs (c : Dev nD) : FVec F S512x1 .f32 :=
  offPay (ssM.view.readAt (Elt F) (lane 0).toLoadRect (stats X W c)) (ssM.view.readAt (Elt F) (lane 1).toLoadRect (stats X W c))

/-- A column block of the product, and normalised. -/
def colIn (c : Dev nD) (b : Fin 16) : Vec F S512x2048 .f32 := (col b).view.read (Elt F) (logits X W c)
def colOut (c : Dev nD) (b : Fin 16) : FVec F S512x2048 .f32 := normPay (offs X W c) (colIn X W c b)

/-- The result's buffer at the end. -/
def final (c : Dev nD) : Vec F S512x32768 .f32 := fun i =>
  colOut X W c ⟨(i 1).val / 2048, by have : (i 1).val < 32768 := (i 1).isLt; omega⟩ (colIx (i 0).val ((i 1).val % 2048) (i 0).isLt (Nat.mod_lt _ (by decide)))

theorem colOut_congr (c : Dev nD) {b b' : Fin 16} {x x' : S512x2048.Idx} (hb : b = b') (hx : x = x') : colOut X W c b x = colOut X W c b' x' := by
  subst hb hx; rfl

theorem read_final (c : Dev nD) (b : Fin 16) : (col b).view.read (Elt F) (final X W c) = colOut X W c b := by
  funext x
  obtain ⟨h0, h1⟩ := col_emb b x
  have x1 : (x 1).val < 2048 := (x 1).isLt
  show final X W c ((col b).view.emb x) = _
  unfold final
  refine colOut_congr X W c (Fin.ext ?_) (idx2_ext ?_ ?_)
  · show _ / 2048 = _; rw [h1]; omega
  · exact h0
  · show _ % 2048 = (x 1).val; rw [h1]; omega

end Cert.Softmax

end
-- ==== Proof.Protocol.lean ====
/-
# The protocol of the devices

Every device owns these semaphores the others credit: its barrier semaphore, the send and receive semaphores of the statistics
and of the twelve transfers of the ring and of the pair. Each is used for ONE round. This file names them (`Cl`), says what each
credit hands over (`pay`), and in which order a device waits (`lv`).
-/
module

public import proofs.«01_k».proof.Proof.Contents
public import Idealize.ShloMosaic.Lib.Rounds
public import Idealize.ShloMosaic.Lib.Transfers

@[expose] public section

noncomputable section

namespace Cert.Softmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The ghost state: the pipeline's, the rounds', and the local transfers' counters. -/
abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

/-! ## The shared cells -/

/-- The semaphores that are credited from outside or by a remote transfer. -/
inductive Cl where
  | bar | stS | stR
  | yS (n : Fin 12) | yR (n : Fin 12) | xS (n : Fin 12) | xR (n : Fin 12)
  deriving DecidableEq, Fintype

def cs : Cl → SemLoc sig
  | .bar => .reg barrier0
  | .stS => .dma qStS
  | .stR => .dma qStR
  | .yS n => .dma (qYS n)
  | .yR n => .dma (qYR n)
  | .xS n => .dma (qXS n)
  | .xR n => .dma (qXR n)

/-- Which of them a semaphore is. -/
def dec : SemLoc sig → Option Cl
  | .reg _ => some .bar
  | .dma q =>
    if q.val < 7 then none else if q.val = 7 then some .stS else if q.val = 8 then some .stR
    else if h : q.val < 21 then some (.yS ⟨(q.val - 9) % 12, by omega⟩)
    else if h : q.val < 33 then some (.yR ⟨(q.val - 21) % 12, by omega⟩)
    else if h : q.val < 45 then some (.xS ⟨(q.val - 33) % 12, by omega⟩)
    else some (.xR ⟨(q.val - 45) % 12, by omega⟩)

theorem dec_cs : ∀ k : Cl, dec (cs k) = some k := by decide
theorem cs_inj : Function.Injective cs := fun a b h => by
  have := congrArg dec h; rw [dec_cs, dec_cs] at this; exact Option.some.inj this

/-- A device's cell. -/
abbrev cell (c : Dev nD) (k : Cl) : GSem nD τ sig := ((c : Thread nD τ), cs k)

theorem cell_inj {c c' : Dev nD} {k k' : Cl} (h : cell c k = cell c' k') : c = c' ∧ k = k' :=
  ⟨congrArg (fun g : GSem nD τ sig => g.1.1) h, cs_inj (congrArg Prod.snd h)⟩

/-- What a half slab's transfer credits, and what the statistics' does. -/
abbrev N : ℕ := (slab 0 0).view.dmaCredit
theorem N_pos : 0 < N := View.dmaCredit_pos _ (by decide)
abbrev NS : ℕ := (stat 0).view.dmaCredit
theorem NS_pos : 0 < NS := View.dmaCredit_pos _ (by decide)
theorem slab_credit (a : Fin 2) (b : Fin 16) : (slab a b).view.dmaCredit = N := rfl
theorem stat_credit (a : Fin 2) : (stat a).view.dmaCredit = NS := rfl

/-! ## Assertions about the buffers -/

/-- Device `c` holds a share of its half slab `(a, b)` of the result's buffer, at contents `f`. -/
abbrev slabP (c : Dev nD) (a : Fin 2) (b : Fin 16) (q : PosShare TreeShare) (f : Vec F S512x32768 .f32) : sProp 𝕄 :=
  (slab a b).view.loc (c : Thread nD τ) ↦[(slab a b).view.set]{q} f
/-- The same of one half's rows of the statistics. -/
abbrev statP (c : Dev nD) (a : Fin 2) (f : Vec F S2x512x128 .f32) : sProp 𝕄 :=
  (stat a).view.loc (c : Thread nD τ) ↦[(stat a).view.set]{fullShare} f
/-- The half slab at any contents. -/
def slabX (c : Dev nD) (a : Fin 2) (b : Fin 16) : sProp 𝕄 := iprop(∃ f, slabP (F := F) c a b fullShare f)

instance slabP_storable (c : Dev nD) (a : Fin 2) (b : Fin 16) (q) (f) : BI.Storable (upEmb : UEmb _ 𝕄) (slabP (F := F) c a b q f) := by infer_instance
instance statP_storable (c : Dev nD) (a : Fin 2) (f) : BI.Storable (upEmb : UEmb _ 𝕄) (statP (F := F) c a f) := by infer_instance
instance slabX_storable (c : Dev nD) (a : Fin 2) (b : Fin 16) : BI.Storable (upEmb : UEmb _ 𝕄) (slabX (F := F) c a b) := by unfold slabX; infer_instance

/-- The three parts of a received half slab: to the ring's next transfer, to the pair's, and for reading. -/
abbrev shY : PosShare TreeShare := fullShare.left
abbrev shX : PosShare TreeShare := fullShare.right.left
abbrev shR : PosShare TreeShare := fullShare.right.right

variable (X : Dev nD → Vec F S512x1024 .f32) (W : Dev nD → Vec F S1024x8192 .f32)

/-! ## The schedule -/

/-- What a credit of device `c`'s cell hands to `c`. At the barrier the right neighbour gives the twelve half slabs
    the ring's transfers land in, the pair those the pair's transfers land in and its rows of the statistics. -/
def pay (c : Dev nD) : Cl → Fin 3 → sProp 𝕄
  | .bar, 0 => bigSep (Finset.range 12) fun i => slabX (nR c) (half c) (blk c i)
  | .bar, 1 => iprop(emp)
  | .bar, 2 => iprop((bigSep (Finset.range 12) fun i => slabX (nP c) (half c) (blk c (i + 4))) ∗ ∃ f, statP (nP c) (half c) f)
  | .stS, _ => statP c (half c) (stats X W c)
  | .stR, _ => statP c (halfO c) (stats X W c)
  | .yS n, _ => slabP c (half c) (blk c n.val) shY (logits X W c)
  | .yR n, _ => slabP c (half c) (blk c (n.val + 4)) fullShare (logits X W c)
  | .xS n, _ => slabP c (half c) (blk c (n.val + 4)) shX (logits X W c)
  | .xR n, _ => slabP c (halfO c) (blk c (n.val + 4)) fullShare (logits X W c)

instance pay_storable (c : Dev nD) (k : Cl) (d : Fin 3) : BI.Storable (upEmb : UEmb _ 𝕄) (pay X W c k d) := by
  cases k
  · match d with
    | 0 => unfold pay; infer_instance
    | 1 => unfold pay; infer_instance
    | 2 => unfold pay; infer_instance
  all_goals (unfold pay; infer_instance)

def dut : Cl → Finset (Fin 3)
  | .bar => Finset.univ
  | _ => {0}
/-- A credit of the barrier is one unit, of the statistics `a`, of a half slab `b`. -/
def amtOf (a b : ℕ) : Cl → ℕ
  | .bar => 1
  | .stS | .stR => a
  | _ => b
theorem amtOf_pos {a b : ℕ} (ha : 0 < a) (hb : 0 < b) (k : Cl) : 0 < amtOf a b k := by
  cases k
  · exact Nat.one_pos
  · exact ha
  · exact ha
  all_goals exact hb
def amt : Cl → ℕ := amtOf NS N
theorem amt_pos (k : Cl) : 0 < amt k := amtOf_pos NS_pos N_pos k
theorem amt_bar : amt .bar = 1 := rfl
theorem amtOf_st {a b : ℕ} : amtOf a b .stS = a ∧ amtOf a b .stR = a := ⟨rfl, rfl⟩
theorem amtOf_n {a b : ℕ} (n : Fin 12) : amtOf a b (.yS n) = b ∧ amtOf a b (.yR n) = b ∧ amtOf a b (.xS n) = b ∧ amtOf a b (.xR n) = b :=
  ⟨rfl, rfl, rfl, rfl⟩
theorem amt_stS : amt .stS = NS := amtOf_st.1
theorem amt_stR : amt .stR = NS := amtOf_st.2
theorem amt_yS (n : Fin 12) : amt (.yS n) = N := (amtOf_n n).1
theorem amt_yR (n : Fin 12) : amt (.yR n) = N := (amtOf_n n).2.1
theorem amt_xS (n : Fin 12) : amt (.xS n) = N := (amtOf_n n).2.2.1
theorem amt_xR (n : Fin 12) : amt (.xR n) = N := (amtOf_n n).2.2.2

def sched : Rounds.Schedule (GSem nD τ sig) (Fin 3) 𝕄 where
  duties g r := if r = 0 ∧ g.1.2 = .tc then (match dec g.2 with | none => ∅ | some k => dut k) else ∅
  unitless _ := False
  amount g _ _ := match dec g.2 with | none => 1 | some k => amt k
  payload g _ d := match dec g.2 with | none => iprop(emp) | some k => pay X W g.1.1 k d
  amount_pos g _ _ _ := by
    show 0 < (match dec g.2 with | none => 1 | some k => amt k)
    cases dec g.2 with
    | none => exact Nat.one_pos
    | some k => exact amt_pos k

instance sched_storable (g : GSem nD τ sig) (r : ℕ) (d : Fin 3) : BI.Storable (upEmb : UEmb _ 𝕄) ((sched X W).payload g r d) := by
  show BI.Storable upEmb (match dec g.2 with | none => iprop(emp) | some k => pay X W g.1.1 k d)
  cases dec g.2 with
  | none => dsimp only; infer_instance
  | some k => dsimp only; infer_instance

theorem duties_cell (c : Dev nD) (k : Cl) : (sched X W).duties (cell c k) 0 = dut k := by
  dsimp only [sched]; rw [if_pos ⟨rfl, rfl⟩, dec_cs]
theorem duties_later (g : GSem nD τ sig) : ∀ r, 1 ≤ r → (sched X W).duties g r = ∅ := fun r hr => by
  dsimp only [sched]; exact if_neg fun h => by omega
theorem amount_cell (c : Dev nD) (k : Cl) (d : Fin 3) : (sched X W).amount (cell c k) 0 d = amt k := by
  dsimp only [sched]; rw [dec_cs]
theorem payload_cell (c : Dev nD) (k : Cl) (d : Fin 3) : (sched X W).payload (cell c k) 0 d = pay X W c k d := by
  dsimp only [sched]; rw [dec_cs]
theorem mem_duties (c : Dev nD) {k : Cl} {d : Fin 3} (h : d ∈ dut k) : d ∈ (sched X W).duties (cell c k) 0 := by
  rw [duties_cell]; exact h
theorem expect_cell (c : Dev nD) (k : Cl) : (sched X W).expect (cell c k) 0 = (dut k).card * amt k := by
  unfold Schedule.expect Schedule.amountOf
  rw [duties_cell, Finset.sum_congr rfl fun d _ => amount_cell X W c k d, Finset.sum_const, smul_eq_mul]
theorem rest_cell (c : Dev nD) (k : Cl) :
    bigSep ((sched X W).duties (cell c k) 0 \ ∅) (fun d => (sched X W).payload (cell c k) 0 d) = bigSep (dut k) (fun d => pay X W c k d) := by
  rw [Finset.sdiff_empty, duties_cell]
  exact bigSep_congr fun d _ => payload_cell X W c k d
theorem rest_one (c : Dev nD) {k : Cl} (h : dut k = {0}) :
    bigSep ((sched X W).duties (cell c k) 0 \ ∅) (fun d => (sched X W).payload (cell c k) 0 d) = pay X W c k 0 := by
  rw [rest_cell, h, bigSep_singleton]
theorem rest_bar (c : Dev nD) :
    bigSep ((sched X W).duties (cell c .bar) 0 \ ∅) (fun d => (sched X W).payload (cell c .bar) 0 d)
      = iprop(pay X W c .bar 0 ∗ pay X W c .bar 1 ∗ pay X W c .bar 2) := by
  rw [rest_cell]
  exact bigSep_univ_eq_bigSepL [(0 : Fin 3), 1, 2] (by decide) (by decide) _

/-! ## What is owed, and the levels -/

/-- What device `c` still owes after `ny` transfers to the right and `nx` to its pair. -/
def Orem (c : Dev nD) (ny nx : ℕ) : CellTallies nD τ sig Unit :=
  tallyAt (cell (nP c) .stR) () NS + ∑ i ∈ Finset.Ico ny 12, tallyAt (cell (nR c) (.yR (f12 i))) () N
    + ∑ i ∈ Finset.Ico nx 12, tallyAt (cell (nP c) (.xR (f12 i))) () N
def O₂ (c : Dev nD) : CellTallies nD τ sig Unit := Orem c 0 0 + tallyAt (cell (nP c) .bar) () 1
def O₁ (c : Dev nD) : CellTallies nD τ sig Unit := O₂ c + tallyAt (cell (nR c) .bar) () 1
def O₀ (c : Dev nD) : CellTallies nD τ sig Unit := O₁ c + tallyAt (cell (nL c) .bar) () 1

theorem Orem_y (c : Dev nD) {ny : ℕ} (nx : ℕ) (h : ny < 12) : Orem c ny nx = Orem c (ny + 1) nx + tallyAt (cell (nR c) (.yR (f12 ny))) () N := by
  unfold Orem; rw [Finset.sum_eq_sum_Ico_succ_bot h]; abel
theorem Orem_x (c : Dev nD) (ny : ℕ) {nx : ℕ} (h : nx < 12) : Orem c ny nx = Orem c ny (nx + 1) + tallyAt (cell (nP c) (.xR (f12 nx))) () N := by
  unfold Orem; rw [Finset.sum_eq_sum_Ico_succ_bot h]; abel
theorem Orem_end (c : Dev nD) : Orem c 12 12 = 0 + tallyAt (cell (nP c) .stR) () NS := by
  unfold Orem; rw [Finset.Ico_self, Finset.sum_empty, Finset.sum_empty]; abel

def L (g : GSem nD τ sig) : Finset Unit := if g.1.2 = .tc then {()} else ∅
def lvK : Option Cl → ℕ
  | some .bar => 1
  | some (.yR n) => 2 + n.val
  | some (.xR _) | some .stR => 20
  | _ => 0
def lv (g : GSem nD τ sig) (_ : Unit) : ℕ := lvK (dec g.2)

theorem L_tc (c : Dev nD) (sm : SemLoc sig) : L ((c : Thread nD τ), sm) = {()} := if_pos rfl
theorem lv_cell (c : Dev nD) (k : Cl) : lv (cell c k) () = lvK (some k) := by unfold lv; rw [dec_cs]

theorem sum_tally_pos {c : Dev nD} {f : ℕ → Cl} {n m : ℕ} {g : GSem nD τ sig} {u : Unit} {A : ℕ}
    (h : 0 < (∑ i ∈ Finset.Ico n m, tallyAt (cell c (f i)) () A : CellTallies nD τ sig Unit) g u) : ∃ i, n ≤ i ∧ i < m ∧ g = cell c (f i) := by
  rw [Finset.sum_apply, Finsupp.finset_sum_apply] at h
  obtain ⟨i, hi, hne⟩ := Finset.exists_ne_zero_of_sum_ne_zero (Nat.pos_iff_ne_zero.mp h)
  rw [tallyAt_apply] at hne
  rw [Finset.mem_Ico] at hi
  by_cases hg : g = cell c (f i) ∧ u = ()
  · exact ⟨i, hi.1, hi.2, hg.1⟩
  · exact absurd (if_neg hg) hne

/-- What is owed lies high. -/
theorem Orem_pos {c : Dev nD} {ny nx : ℕ} {g : GSem nD τ sig} {u : Unit} (h : 0 < Orem c ny nx g u) :
    () ∈ L g ∧ (2 + ny ≤ lv g () ∨ 20 ≤ lv g ()) := by
  unfold Orem at h
  rw [Pi.add_apply, Finsupp.add_apply, Pi.add_apply, Finsupp.add_apply] at h
  rcases (show 0 < tallyAt (cell (nP c) .stR) () NS g u ∨ 0 < (∑ i ∈ Finset.Ico ny 12, tallyAt (cell (nR c) (.yR (f12 i))) () N : CellTallies nD τ sig Unit) g u
      ∨ 0 < (∑ i ∈ Finset.Ico nx 12, tallyAt (cell (nP c) (.xR (f12 i))) () N : CellTallies nD τ sig Unit) g u by omega) with h | h | h
  · rw [tallyAt_apply] at h
    by_cases hg : g = cell (nP c) .stR ∧ u = ()
    · rw [hg.1]; exact ⟨by rw [L_tc]; exact Finset.mem_singleton_self _, Or.inr (by rw [lv_cell]; exact le_refl 20)⟩
    · rw [if_neg hg] at h; exact absurd h (Nat.lt_irrefl 0)
  · obtain ⟨i, h1, h2, rfl⟩ := sum_tally_pos (f := fun i => Cl.yR (f12 i)) h
    refine ⟨by rw [L_tc]; exact Finset.mem_singleton_self _, Or.inl ?_⟩
    rw [lv_cell]; show 2 + ny ≤ 2 + i % 12; omega
  · obtain ⟨i, h1, h2, rfl⟩ := sum_tally_pos (f := fun i => Cl.xR (f12 i)) h
    exact ⟨by rw [L_tc]; exact Finset.mem_singleton_self _, Or.inr (by rw [lv_cell]; exact le_refl 20)⟩

theorem O₀_pos {c : Dev nD} {g : GSem nD τ sig} {u : Unit} (h : 0 < O₀ c g u) : () ∈ L g ∧ 1 ≤ lv g () := by
  unfold O₀ O₁ O₂ at h
  rw [Pi.add_apply, Finsupp.add_apply, Pi.add_apply, Finsupp.add_apply, Pi.add_apply, Finsupp.add_apply, tallyAt_apply, tallyAt_apply, tallyAt_apply] at h
  by_cases h1 : g = cell (nL c) .bar ∧ u = ()
  · rw [h1.1]; exact ⟨by rw [L_tc]; exact Finset.mem_singleton_self _, by rw [lv_cell]; exact le_refl 1⟩
  by_cases h2 : g = cell (nR c) .bar ∧ u = ()
  · rw [h2.1]; exact ⟨by rw [L_tc]; exact Finset.mem_singleton_self _, by rw [lv_cell]; exact le_refl 1⟩
  by_cases h3 : g = cell (nP c) .bar ∧ u = ()
  · rw [h3.1]; exact ⟨by rw [L_tc]; exact Finset.mem_singleton_self _, by rw [lv_cell]; exact le_refl 1⟩
  rw [if_neg h1, if_neg h2, if_neg h3] at h
  obtain ⟨hL, hl⟩ := Orem_pos (c := c) (ny := 0) (nx := 0) (g := g) (u := u) (by omega)
  exact ⟨hL, by omega⟩

/-- A device may wait on what lies below all it owes. -/
theorem mayWait (c : Dev nD) (sm : SemLoc sig) (ny nx : ℕ) (h1 : lvK (dec sm) < 2 + ny) (h2 : lvK (dec sm) < 20) :
    (levAts L lv : sProp 𝕄) ⊢ MayWait (c : Thread nD τ) sm () (Orem c ny nx) :=
  MayOwe.of_cut (L := L) (lev := lv) (lvK (dec sm)) (fun p hp => by rw [Finset.mem_singleton.mp hp, L_tc]; exact Finset.mem_singleton_self _)
    (fun g u hg => (Orem_pos hg).1)
    (fun p hp => by rw [Finset.mem_singleton.mp hp]; exact le_refl _)
    (fun g u hg => by rcases (Orem_pos hg).2 with h | h <;> exact lt_of_lt_of_le (by assumption) h)
/-- At the start, on a semaphore of level zero. -/
theorem mayWait₀ (c : Dev nD) (sm : SemLoc sig) (h : lvK (dec sm) = 0) :
    (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => (O₀_pos hg).1)
    (fun p hp => by rw [Finset.mem_singleton.mp hp]; exact le_of_eq h)
    (fun g u hg => (O₀_pos hg).2)

end Cert.Softmax

end
-- ==== Proof.Steps.lean ====
/-
# One operation of each kind

What a transfer to another device, a wait for one, a local copy, and the product of a block do to the assertions of
`Protocol`. Each is stated once, for any half slab, device and semaphore of its kind.
-/
module

public import proofs.«01_k».proof.Proof.Protocol

@[expose] public section

noncomputable section

namespace Cert.Softmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- The weakest precondition of a program of device `c`. -/
abbrev WP (c : Dev nD) (p : P F) (Q : PUnit → sProp 𝕄) : sProp 𝕄 :=
  wp frame (wpE (defs₀ (F := F)) 𝒱₀ (c : Thread nD τ) none) Set.univ p Q

variable (X : Dev nD → Vec F S512x1024 .f32) (W : Dev nD → Vec F S1024x8192 .f32)
variable (K : Dev nD × Cl → ℕ)

/-! ## What every device knows -/

def recs : sProp 𝕄 :=
  iprop((bigSep Finset.univ fun ck : Dev nD × Cl => cellInv ER (sched X W) (K ck) (cell ck.1 ck.2))
    ∗ bigSep Finset.univ fun ck : Dev nD × Cl => reached ER (cell ck.1 ck.2) 0)

instance recs_persistent : BI.Persistent (recs X W K) := by unfold recs; infer_instance

/-- All the cells' invariants, that their first round is open, and the levels. -/
def ctx : sProp 𝕄 := iprop(recs X W K ∗ levAts L lv)

instance ctx_persistent : BI.Persistent (ctx X W K) := by unfold ctx; infer_instance

theorem ctx_inv (c : Dev nD) (k : Cl) : ctx X W K ⊢ cellInv ER (sched X W) (K (c, k)) (cell c k) := by
  unfold ctx recs
  iintro ⟨⟨H, -⟩, -⟩
  iapply (show (bigSep Finset.univ fun ck : Dev nD × Cl => cellInv ER (sched X W) (K ck) (cell ck.1 ck.2)) ⊢ cellInv ER (sched X W) (K (c, k)) (cell c k)
    from bigSep_elim (Finset.mem_univ (c, k))) $$ H
theorem ctx_reached (c : Dev nD) (k : Cl) : ctx X W K ⊢ reached ER (cell c k) 0 := by
  unfold ctx recs
  iintro ⟨⟨-, H⟩, -⟩
  iapply (show (bigSep Finset.univ fun ck : Dev nD × Cl => (reached ER (cell ck.1 ck.2) 0 : sProp 𝕄)) ⊢ reached ER (cell c k) 0
    from bigSep_elim (Finset.mem_univ (c, k))) $$ H
theorem ctx_lev : ctx X W K ⊢ (levAts L lv : sProp 𝕄) := by
  unfold ctx; iintro ⟨-, H⟩; iexact H

/-! ## Short names -/

def ow (c : Dev nD) (O : CellTallies nD τ sig Unit) : sProp 𝕄 := iprop(∃ Ws, owes (c : Thread nD τ) O Ws)
abbrev tk (c : Dev nD) (k : Cl) : sProp 𝕄 := dutyTok ER (cell c k) 0 0
abbrev at0 (c : Dev nD) (k : Cl) : sProp 𝕄 := atPos ER (cell c k) 0 ∅ 0
abbrev at1 (c : Dev nD) (k : Cl) : sProp 𝕄 := atPos ER (cell c k) (0 + 1) ∅ 0
abbrev cr (c : Dev nD) (k : Cl) (n : ℕ) : sProp 𝕄 := cred (tallyAt (cell c k) () n)
abbrev sv (c : Dev nD) (q : DmaSem sig) : sProp 𝕄 := semVal ((c : Thread nD τ), .dma q) 0

/-- A buffer of device `c` at contents `f`, and at any. -/
abbrev buf (c : Dev nD) (b : Ref sig .tc) (f : b.ty.Contents (Elt F)) : sProp 𝕄 := ((c : Thread nD τ).loc b) ↦{fullShare} f
abbrev bufX (c : Dev nD) (b : Ref sig .tc) : sProp 𝕄 := iprop(∃ f : b.ty.Contents (Elt F), buf c b f)

/-! ## Written contents -/

theorem write_on {κ : Kind} {sp : Space} {s : Shape} {e : EltTy} (v : View sig κ sp s e) {f g : v.ref.ty.Contents (Elt F)} {w : s.Idx → Elt F e}
    (h : v.read (Elt F) g = w) {i : v.ref.ty.shape.Idx} (hi : i ∈ v.set) : v.write (Elt F) f w Finset.univ i = g i := by
  rw [← h, View.write_read_eq_piecewise]
  exact Finset.piecewise_eq_of_mem _ _ _ hi

/-- A half slab rewritten with the block is a half slab of the product. -/
theorem slab_landed (c : Dev nD) (a : Fin 2) (b : Fin 16) (f : Vec F S512x32768 .f32) {w : Vec F S256x2048 .f32} (h : prodBlk X W c a b = w) :
    ((slab a b).view.loc (c : Thread nD τ) ↦[(slab a b).view.set]{fullShare} ((slab a b).view.write (Elt F) f w Finset.univ) : sProp 𝕄)
      = slabP c a b fullShare (logits X W c) :=
  pointsTo_congr fun i hi => write_on (slab a b).view ((read_logits X W c a b).trans h) hi
theorem stat_landed (c : Dev nD) (a : Fin 2) (f : Vec F S2x512x128 .f32) {w : Vec F S2x256x128 .f32} (h : (stat a).view.read (Elt F) (stats X W c) = w) :
    ((stat a).view.loc (c : Thread nD τ) ↦[(stat a).view.set]{fullShare} ((stat a).view.write (Elt F) f w Finset.univ) : sProp 𝕄)
      = statP c a (stats X W c) :=
  pointsTo_congr fun i hi => write_on (stat a).view h hi

/-! ## The four kinds of operation -/

/-- A transfer to device `n`. -/
theorem wp_remote (c n : Dev nD) (kS kR : Cl) (A : ℕ) (h₁ : (0 : Fin 3) ∈ dut kS) (h₂ : (0 : Fin 3) ∈ dut kR) (a₁ : amt kS = A) (a₂ : amt kR = A)
    {sp sp' : Space} {s : Shape} {e : EltTy} {src : Memref sig .tc sp s e} {dst : Memref sig (Dev.tc n : Thread nD τ).2.kind sp' s e}
    {hsc : dst.view.ref.isScScratch = false} {hsrc : src.view.WordExact} {hdst : dst.view.WordExact}
    {hsem : DmaTarget.Typed sp (cs kR) (.remote (Dev.tc n : Thread nD τ) dst (cs kS) hsc)}
    (hN : dst.view.amount (cs kR) = A)
    {q : PosShare TreeShare} {fs : Buf (Elt F) (src.view.loc (c : Thread nD τ))} {fd : Buf (Elt F) (dst.view.loc (Dev.tc n : Thread nD τ))}
    {O₁ : CellTallies nD τ sig Unit} (O : CellTallies nD τ sig Unit) (hO : O₁ = O + tallyAt (cell n kR) () A)
    (p₁ : (src.view.loc (c : Thread nD τ) ↦[src.view.set]{q} fs : sProp 𝕄) ⊢ pay X W c kS 0)
    (p₂ : (dst.view.loc (Dev.tc n : Thread nD τ) ↦[dst.view.set]{fullShare} (dst.view.write (Elt F) fd (src.view.read (Elt F) fs) Finset.univ) : sProp 𝕄) ⊢ pay X W n kR 0)
    {Q : PUnit → sProp 𝕄} {k : PUnit → P F} :
    iprop(ctx X W K ∗ (src.view.loc (c : Thread nD τ) ↦[src.view.set]{q} fs) ∗ (dst.view.loc (Dev.tc n : Thread nD τ) ↦[dst.view.set]{fullShare} fd)
        ∗ ow c O₁ ∗ tk c kS ∗ tk n kR)
      ⊢ iprop(((cr c kS A ∗ ow c O) -∗ WP c (k ⟨⟩) Q)
          -∗ WP c (.op (.enqueueDma src (.remote (Dev.tc n : Thread nD τ) dst (cs kS) hsc) (cs kR) hsrc hdst hsem) k) Q) := by
  unfold ow
  iintro ⟨#HC, Hs, Hd, ⟨%Ws, HO⟩, T1, T2⟩ Hk
  iapply (Rounds.wp_send_pointsTo 𝒱₀ ER (sched X W) (c : Thread nD τ) none (κ₁ := K (c, kS)) (κ₂ := K (n, kR)) (r₁ := 0) (r₂ := 0) (d₁ := 0) (d₂ := 0) (fd := fd)
    (mem_duties X W c h₁) (mem_duties X W n h₂) () () A hN ((amount_cell X W c kS 0).trans a₁) ((amount_cell X W n kR 0).trans a₂) O hO (W := Ws)
    (p₁.trans (Entails.of_eq (payload_cell X W c kS 0).symm)) (p₂.trans (Entails.of_eq (payload_cell X W n kR 0).symm))) $$ [Hs Hd HO T1 T2]
  · isplitr; · iapply (ctx_inv X W K c kS) $$ HC
    isplitr; · iapply (ctx_inv X W K n kR) $$ HC
    isplitl [Hs]; · iexact Hs
    isplitl [Hd]; · iexact Hd
    isplitl [HO]; · iexact HO
    isplitl [T1]; · iexact T1
    isplitr; · iapply (ctx_reached X W K c kS) $$ HC
    isplitl [T2]; · iexact T2
    iapply (ctx_reached X W K n kR) $$ HC
  iintro ⟨Hc, HO⟩
  iapply Hk
  isplitl [Hc]; · iexact Hc
  iexists Ws; iexact HO

/-- A wait for a whole round of a shared cell. -/
theorem wp_round (c : Dev nD) (k : Cl) (A : ℕ) (hA : (dut k).card * amt k = A) {w : TpuEff nD τ sig (Elt F) Λ₀ .tc PUnit}
    (hw : ∀ R : PUnit → sProp 𝕄, wpE (defs₀ (F := F)) 𝒱₀ (c : Thread nD τ) none Set.univ w R = waitSpec (c : Thread nD τ) Set.univ (cs k) A R)
    {O : CellTallies nD τ sig Unit} {Q : PUnit → sProp 𝕄} {p : PUnit → P F} :
    iprop(ctx X W K ∗ cr c k A ∗ ow c O ∗ MayWait (c : Thread nD τ) (cs k) () O ∗ at0 c k)
      ⊢ iprop(((ow c O ∗ at1 c k ∗ bigSep (dut k) (fun d => pay X W c k d)) -∗ WP c (p ⟨⟩) Q) -∗ WP c (.op w p) Q) := by
  unfold ow
  iintro ⟨#HC, Hc, ⟨%Ws, HO⟩, Hm, Ha⟩ Hk
  iapply (Rounds.wp_wait_rest_token 𝒱₀ ER (sched X W) (c : Thread nD τ) none (κ := K (c, k)) hw (Set.mem_univ _) () (O := O) (W := Ws) (R := 0) (m := 0) (T := ∅)
    ((Nat.zero_add A).trans (hA.symm.trans (expect_cell X W c k).symm))) $$ [Hc HO Hm Ha]
  · isplitr; · iapply (ctx_inv X W K c k) $$ HC
    isplitl [Hc]; · iexact Hc
    isplitl [HO]; · iexact HO
    isplitl [Hm]; · iexact Hm
    iexact Ha
  iintro ⟨HO, Ha, -, Hp⟩
  iapply Hk
  isplitl [HO]; · iexists _; iexact HO
  isplitl [Ha]; · iexact Ha
  iapply (Entails.of_eq (rest_cell X W c k)) $$ Hp

/-- A local copy and its wait. -/
theorem wp_copy (c : Dev nD) {sp sp' spw : Space} {s : Shape} {e : EltTy} {src : Memref sig .tc sp s e} {dst : Memref sig .tc sp' s e} {srcw : Memref sig .tc spw s e}
    {q : DmaSem sig} {hsrc : src.view.WordExact} {hdst : dst.view.WordExact} {hsem : DmaTarget.Typed (nD := nD) (τ := τ) (p := (c : Thread nD τ).2) sp (.dma q) (.here dst)}
    {hsrc' : srcw.view.WordExact} {hdst' : dst.view.WordExact}
    {qs : PosShare TreeShare} {fs : Buf (Elt F) (src.view.loc (c : Thread nD τ))} {Sd : Finset (Idx (dst.view.loc (c : Thread nD τ)))}
    {fd : Buf (Elt F) (dst.view.loc (c : Thread nD τ))} (hpos : 0 < dst.view.dmaCredit) (hSd : dst.view.set ⊆ Sd) (ny nx : ℕ) (hq : lvK (dec (.dma q)) = 0)
    {Q : PUnit → sProp 𝕄} {k : PUnit → P F} :
    iprop(ctx X W K ∗ (src.view.loc (c : Thread nD τ) ↦[src.view.set]{qs} fs) ∗ (dst.view.loc (c : Thread nD τ) ↦[Sd]{fullShare} fd) ∗ sv c q ∗ ow c (Orem c ny nx))
      ⊢ iprop((((dst.view.loc (c : Thread nD τ) ↦[Sd]{fullShare} (dst.view.write (Elt F) fd (src.view.read (Elt F) fs) Finset.univ))
            ∗ (src.view.loc (c : Thread nD τ) ↦[src.view.set]{qs} fs) ∗ sv c q ∗ ow c (Orem c ny nx)) -∗ WP c (k ⟨⟩) Q)
        -∗ WP c (.op (.enqueueDma src (.here dst) (.dma q) hsrc hdst hsem) fun _ => .op (.waitDma2 q srcw dst hsrc' hdst') k) Q) := by
  unfold ow
  iintro ⟨#HC, Hs, Hd, Hv, ⟨%Ws, HO⟩⟩ Hk
  iapply (Transfers.wp_dmaLocal EC 𝒱₀ (c : Thread nD τ) none () dst.view.dmaCredit rfl hpos hSd) $$ [Hs Hd Hv]
  · isplitl [Hs]; · iexact Hs
    isplitl [Hd]; · iexact Hd
    iexact Hv
  iintro Hf
  iapply (Transfers.wp_waitLocalO EC 𝒱₀ (c : Thread nD τ) none () (rfl : dst.view.dmaCredit = _)) $$ [Hf HO]
  · isplitl [Hf]; · iexact Hf
    isplitl [HO]; · iexact HO
    iapply (mayWait c (.dma q) ny nx (by rw [hq]; omega) (by rw [hq]; omega))
    iapply (ctx_lev X W K) $$ HC
  iintro ⟨⟨Hd, Hs⟩, Hv, HO⟩
  iapply Hk
  isplitl [Hd]; · iexact Hd
  isplitl [Hs]; · iexact Hs
  isplitl [Hv]; · iexact Hv
  iexists _; iexact HO

end Cert.Softmax

end
-- ==== Proof.Stages.lean ====
/-
# The stages

What each stage of `Program` does: the product of a block, the sends, the waits and the folding in of a half slab.
-/
module

public import proofs.«01_k».proof.Proof.Steps

@[expose] public section

noncomputable section

namespace Cert.Softmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Dev nD → Vec F S512x1024 .f32) (W : Dev nD → Vec F S1024x8192 .f32)
variable (K : Dev nD × Cl → ℕ)

/-- What the device computes with: its inputs, the tiles, and the two semaphores of its own copies. -/
def locR (c : Dev nD) : sProp 𝕄 :=
  iprop(buf c main_arg1 (W c) ∗ bufX c cc0_scratch2 ∗ buf c cc0_stg0_0 (X c) ∗ bufX c cc0_scratch0 ∗ bufX c cc0_scratch1 ∗ bufX c cc0_scratch3
    ∗ sv c qLoc ∗ sv c qW)

theorem hz2 : (![0, 0] : Fin 2 → Nat) = fun _ => 0 := funext fun a => by fin_cases a <;> rfl

/-- A whole buffer is a part of it and the rest. -/
theorem buf_part (c : Dev nD) (b : Ref sig .tc) (f : b.ty.Contents (Elt F)) (S : Finset b.ty.shape.Idx) :
    (buf c b f : sProp 𝕄) ⊣⊢ iprop((((c : Thread nD τ).loc b) ↦[S]{fullShare} f) ∗ (((c : Thread nD τ).loc b) ↦[Finset.univ \ S]{fullShare} f)) :=
  pointsTo_split_subset (Finset.subset_univ S)

set_option maxHeartbeats 1000000 in
theorem wp_gemm (c : Dev nD) (a : Fin 2) {j : ℕ} (hj : j < 4) (ny nx : ℕ) {xo : Fin 2 → Nat} {hx : ∀ a, xo a + S256x1024.size a ≤ S512x1024.size a}
    {o : Fin 2 → Nat} {ho : ∀ a, o a + S256x2048.size a ≤ S512x32768.size a} (ex : xo = rowO a) (eo : o = slabO a (blk c j))
    {k : P F} {Q : PUnit → sProp 𝕄} :
    iprop(ctx X W K ∗ locR X W c ∗ slabX c a (blk c j) ∗ ow c (Orem c ny nx))
      ⊢ iprop(((locR X W c ∗ slabP c a (blk c j) fullShare (logits X W c) ∗ ow c (Orem c ny nx)) -∗ WP c k Q)
        -∗ WP c (gemm (oW j) (oW_inb j) xo hx o ho k) Q) := by
  subst ex eo
  unfold locR gemm slabX
  iintro ⟨#HC, ⟨HW, ⟨%fw, Hwt⟩, HX, ⟨%ft, Ht⟩, Ht2, Hst, HqL, HqW⟩, ⟨%fs, Hs⟩, HO⟩ Hk
  ihave HWs := (buf_part c main_arg1 (W c) (wBlk j).view.set).1 $$ HW
  icases HWs with ⟨HWa, HWb⟩
  iapply (wp_copy X W K c (src := wBlk j) (dst := wtM) (q := qW) (View.dmaCredit_pos _ (by decide)) (Finset.subset_univ _) ny nx rfl) $$ [HWa Hwt HqW HO]
  · isplitr; · iexact HC
    isplitl [HWa]; · iexact HWa
    isplitl [Hwt]; · iexact Hwt
    isplitl [HqW]; · iexact HqW
    iexact HO
  iintro ⟨Hwt, HWa, HqW, HO⟩
  ihave HW := (buf_part c main_arg1 (W c) (wBlk j).view.set).2 $$ [HWa HWb]
  · isplitl [HWa]; · iexact HWa
    iexact HWb
  iapply (wp_load 𝒱₀ (c : Thread nD τ) none Set.univ (m := xM) (Finset.subset_univ _)) $$ HX
  iintro HX
  iapply (wp_load 𝒱₀ (c : Thread nD τ) none Set.univ (m := wtM) (Finset.subset_univ _)) $$ Hwt
  iintro Hwt
  iapply (wp_load 𝒱₀ (c : Thread nD τ) none Set.univ (m := tM) (Finset.subset_univ _)) $$ Ht
  iintro Ht
  iapply (wp_store 𝒱₀ (c : Thread nD τ) none Set.univ (m := tM) (r := halfRect) (Mk := Finset.univ) (Finset.subset_univ _)) $$ Ht
  iintro Ht
  ihave Hts := (buf_part c cc0_scratch0 _ tHalf.view.set).1 $$ Ht
  icases Hts with ⟨Hta, Htb⟩
  iapply (wp_copy X W K c (src := tHalf) (dst := slab a (blk c j)) (q := qLoc) (View.dmaCredit_pos _ (by decide)) (Finset.Subset.refl _) ny nx rfl) $$ [Hta Hs HqL HO]
  · isplitr; · iexact HC
    isplitl [Hta]; · iexact Hta
    isplitl [Hs]; · iexact Hs
    isplitl [HqL]; · iexact HqL
    iexact HO
  iintro ⟨Hs, Hta, HqL, HO⟩
  ihave Ht := (buf_part c cc0_scratch0 _ tHalf.view.set).2 $$ [Hta Htb]
  · isplitl [Hta]; · iexact Hta
    iexact Htb
  iapply Hk
  isplitr [Hs HO]
  · isplitl [HW]; · iexact HW
    isplitl [Hwt]; · iexists _; iexact Hwt
    isplitl [HX]; · iexact HX
    isplitl [Ht]; · iexists _; iexact Ht
    isplitl [Ht2]; · iexact Ht2
    isplitl [Hst]; · iexact Hst
    isplitl [HqL]; · iexact HqL
    iexact HqW
  isplitl [Hs]
  · iapply (Entails.of_eq (slab_landed X W c a (blk c j) fs ((prodBlk_own X W c a hj).trans ?_))) $$ Hs
    have e1 : (wtM : Memref sig .tc .vmem S1024x2048 .f32).view.readAt (Elt F) wtRect.toLoadRect (wtM.view.write (Elt F) fw ((wBlk j).view.read (Elt F) (W c)) Finset.univ) = wcols j (W c) :=
      (Memref.readAt_unit_zero (Elt F) cc0_scratch2 hz2 _ _).trans (View.write_whole_univ _ _ _)
    rw [e1]
    exact (View.read_write_univ (v := tM.access halfRect) ft (dotPay (rows a (X c)) (wcols j (W c)))).symm
  · iexact HO

/-! ## Folding a half slab in -/

theorem wp_fold (c : Dev nD) (a : Fin 2) (b : Fin 16) (q : PosShare TreeShare) (ny nx : ℕ)
    {o : Fin 2 → Nat} {ho : ∀ a, o a + S256x2048.size a ≤ S512x32768.size a} (eo : o = slabO a b)
    {k : Vec F S256x2048 .f32 → P F} {Q : PUnit → sProp 𝕄} :
    iprop(ctx X W K ∗ locR X W c ∗ slabP c a b q (logits X W c) ∗ ow c (Orem c ny nx))
      ⊢ iprop(((locR X W c ∗ slabP c a b q (logits X W c) ∗ ow c (Orem c ny nx)) -∗ WP c (k (prodBlk X W c a b)) Q) -∗ WP c (fold o ho k) Q) := by
  subst eo
  unfold locR fold
  iintro ⟨#HC, ⟨HW, Hwt, HX, Ht, Ht2, ⟨%fst, Hst⟩, HqL, HqW⟩, Hs, HO⟩ Hk
  iapply (wp_copy X W K c (src := slab a b) (dst := stM) (q := qLoc) (View.dmaCredit_pos _ (by decide)) (Finset.subset_univ _) ny nx rfl) $$ [Hs Hst HqL HO]
  · isplitr; · iexact HC
    isplitl [Hs]; · iexact Hs
    isplitl [Hst]; · iexact Hst
    isplitl [HqL]; · iexact HqL
    iexact HO
  iintro ⟨Hst, Hs, HqL, HO⟩
  iapply (wp_load 𝒱₀ (c : Thread nD τ) none Set.univ (m := stM) (Finset.subset_univ _)) $$ Hst
  iintro Hst
  have e1 : (stM : Memref sig .tc .vmem S256x2048 .f32).view.readAt (Elt F) stRect.toLoadRect (stM.view.write (Elt F) fst ((slab a b).view.read (Elt F) (logits X W c)) Finset.univ) = prodBlk X W c a b :=
    (Memref.readAt_unit_zero (Elt F) cc0_scratch3 hz2 _ _).trans ((View.write_whole_univ _ _ _).trans (read_logits X W c a b))
  rw [e1]
  iapply Hk
  isplitr [Hs HO]
  · isplitl [HW]; · iexact HW
    isplitl [Hwt]; · iexact Hwt
    isplitl [HX]; · iexact HX
    isplitl [Ht]; · iexact Ht
    isplitl [Ht2]; · iexact Ht2
    isplitl [Hst]; · iexists _; iexact Hst
    isplitl [HqL]; · iexact HqL
    iexact HqW
  isplitl [Hs]; · iexact Hs
  iexact HO

theorem wp_fold2 (c : Dev nD) (a : Fin 2) (b : Fin 16) (q : PosShare TreeShare) (ny nx : ℕ)
    {o : Fin 2 → Nat} {ho : ∀ a, o a + S256x2048.size a ≤ S512x32768.size a} (eo : o = slabO a b)
    {k : Vec F S256x2048 .f32 → P F} {Q : PUnit → sProp 𝕄} :
    iprop(ctx X W K ∗ locR X W c ∗ slabP c a b q (logits X W c) ∗ ow c (Orem c ny nx))
      ⊢ iprop(((locR X W c ∗ slabP c a b q (logits X W c) ∗ ow c (Orem c ny nx)) -∗ WP c (k (prodBlk X W c a b)) Q) -∗ WP c (fold2 o ho k) Q) := by
  subst eo
  unfold locR fold2
  iintro ⟨#HC, ⟨HW, Hwt, HX, Ht, ⟨%ft, Ht2⟩, Hst, HqL, HqW⟩, Hs, HO⟩ Hk
  iapply (wp_copy X W K c (src := slab a b) (dst := t2Half) (q := qLoc) (Sd := (Finset.univ : Finset (Idx (t2M.view.loc (c : Thread nD τ))))) (fd := ft)
    (View.dmaCredit_pos _ (by decide)) (Finset.subset_univ _) ny nx rfl) $$ [Hs Ht2 HqL HO]
  · isplitr; · iexact HC
    isplitl [Hs]; · iexact Hs
    isplitl [Ht2]; · iexact Ht2
    isplitl [HqL]; · iexact HqL
    iexact HO
  iintro ⟨Ht2, Hs, HqL, HO⟩
  iapply (wp_load 𝒱₀ (c : Thread nD τ) none Set.univ (m := t2M) (Finset.subset_univ _)) $$ Ht2
  iintro Ht2
  have e1 : (t2M : Memref sig .tc .vmem S512x2048 .f32).view.readAt (Elt F) halfRect.toLoadRect (t2Half.view.write (Elt F) ft ((slab a b).view.read (Elt F) (logits X W c)) Finset.univ) = prodBlk X W c a b :=
    (View.read_write_univ (v := t2M.access halfRect) ft _).trans (read_logits X W c a b)
  rw [e1]
  iapply Hk
  isplitr [Hs HO]
  · isplitl [HW]; · iexact HW
    isplitl [Hwt]; · iexact Hwt
    isplitl [HX]; · iexact HX
    isplitl [Ht]; · iexact Ht
    isplitl [Ht2]; · iexists _; iexact Ht2
    isplitl [Hst]; · iexact Hst
    isplitl [HqL]; · iexact HqL
    iexact HqW
  isplitl [Hs]; · iexact Hs
  iexact HO

/-! ## The sends and the waits -/

theorem f12_val {i : ℕ} (hi : i < 12) : (f12 i).val = i := Nat.mod_eq_of_lt hi

theorem pay_yS (c : Dev nD) {i : ℕ} (hi : i < 12) : pay X W c (.yS (f12 i)) 0 = slabP c (half c) (blk c i) shY (logits X W c) := by
  show slabP c (half c) (blk c (f12 i).val) shY (logits X W c) = _; rw [f12_val hi]
theorem pay_yR (c : Dev nD) {i : ℕ} (hi : i < 12) : pay X W c (.yR (f12 i)) 0 = slabP c (half c) (blk c (i + 4)) fullShare (logits X W c) := by
  show slabP c (half c) (blk c ((f12 i).val + 4)) fullShare (logits X W c) = _; rw [f12_val hi]
theorem pay_xS (c : Dev nD) {i : ℕ} (hi : i < 12) : pay X W c (.xS (f12 i)) 0 = slabP c (half c) (blk c (i + 4)) shX (logits X W c) := by
  show slabP c (half c) (blk c ((f12 i).val + 4)) shX (logits X W c) = _; rw [f12_val hi]
theorem pay_xR (c : Dev nD) {i : ℕ} (hi : i < 12) : pay X W c (.xR (f12 i)) 0 = slabP c (halfO c) (blk c (i + 4)) fullShare (logits X W c) := by
  show slabP c (halfO c) (blk c ((f12 i).val + 4)) fullShare (logits X W c) = _; rw [f12_val hi]

theorem pay_yR_nR (c : Dev nD) {i : ℕ} (hi : i < 12) : pay X W (nR c) (.yR (f12 i)) 0 = slabP (nR c) (half c) (blk c i) fullShare (logits X W (nR c)) := by
  rw [pay_yR X W (nR c) hi, half_nR, blk_nR c i hi]
theorem pay_xR_nP (c : Dev nD) {i : ℕ} (hi : i < 12) : pay X W (nP c) (.xR (f12 i)) 0 = slabP (nP c) (half c) (blk c (i + 4)) fullShare (logits X W (nP c)) := by
  rw [pay_xR X W (nP c) hi, halfO_nP, blk_nP c]

/-- What the `i`-th transfer to the right takes. -/
def ySR (c : Dev nD) (i : ℕ) : sProp 𝕄 := iprop(tk c (.yS (f12 i)) ∗ tk (nR c) (.yR (f12 i)) ∗ slabX (nR c) (half c) (blk c i))
/-- What the `i`-th transfer to the pair takes. -/
def xSR (c : Dev nD) (i : ℕ) : sProp 𝕄 := iprop(tk c (.xS (f12 i)) ∗ tk (nP c) (.xR (f12 i)) ∗ slabX (nP c) (half c) (blk c (i + 4)))

theorem wp_sendY (c n : Dev nD) (hn : n = nR c) {i : ℕ} (hi : i < 12) (nx : ℕ)
    {o : Fin 2 → Nat} {ho : ∀ a, o a + S256x2048.size a ≤ S512x32768.size a} (eo : o = slabO (half c) (blk c i)) {k : P F} {Q : PUnit → sProp 𝕄} :
    iprop(ctx X W K ∗ slabP c (half c) (blk c i) shY (logits X W c) ∗ ySR c i ∗ ow c (Orem c i nx))
      ⊢ iprop(((cr c (.yS (f12 i)) N ∗ ow c (Orem c (i + 1) nx)) -∗ WP c k Q) -∗ WP c (send n o ho (qYS (f12 i)) (qYR (f12 i)) k) Q) := by
  subst hn eo
  unfold send ySR slabX
  iintro ⟨#HC, Hs, ⟨T1, T2, ⟨%fd, Hd⟩⟩, HO⟩ Hk
  iapply (wp_remote X W K c (nR c) (.yS (f12 i)) (.yR (f12 i)) N (Finset.mem_singleton_self _) (Finset.mem_singleton_self _) (amt_yS _) (amt_yR _)
    (src := slab (half c) (blk c i)) (dst := slab (half c) (blk c i)) rfl (fd := fd) (Orem c (i + 1) nx) (Orem_y c nx hi)
    (Entails.of_eq (pay_yS X W c hi).symm)
    (Entails.of_eq ((slab_landed X W (nR c) (half c) (blk c i) fd ((prodBlk_nR X W c hi).trans (read_logits X W c _ _).symm)).trans (pay_yR_nR X W c hi).symm))) $$ [Hs T1 T2 Hd HO]
  · isplitr; · iexact HC
    isplitl [Hs]; · iexact Hs
    isplitl [Hd]; · iexact Hd
    isplitl [HO]; · iexact HO
    isplitl [T1]; · iexact T1
    iexact T2
  iexact Hk

theorem wp_sendX (c n : Dev nD) (hn : n = nP c) {i : ℕ} (hi : i < 12) (ny : ℕ)
    {o : Fin 2 → Nat} {ho : ∀ a, o a + S256x2048.size a ≤ S512x32768.size a} (eo : o = slabO (half c) (blk c (i + 4))) {k : P F} {Q : PUnit → sProp 𝕄} :
    iprop(ctx X W K ∗ slabP c (half c) (blk c (i + 4)) shX (logits X W c) ∗ xSR c i ∗ ow c (Orem c ny i))
      ⊢ iprop(((cr c (.xS (f12 i)) N ∗ ow c (Orem c ny (i + 1))) -∗ WP c k Q) -∗ WP c (send n o ho (qXS (f12 i)) (qXR (f12 i)) k) Q) := by
  subst hn eo
  unfold send xSR slabX
  iintro ⟨#HC, Hs, ⟨T1, T2, ⟨%fd, Hd⟩⟩, HO⟩ Hk
  iapply (wp_remote X W K c (nP c) (.xS (f12 i)) (.xR (f12 i)) N (Finset.mem_singleton_self _) (Finset.mem_singleton_self _) (amt_xS _) (amt_xR _)
    (src := slab (half c) (blk c (i + 4))) (dst := slab (half c) (blk c (i + 4))) rfl (fd := fd) (Orem c ny (i + 1)) (Orem_x c ny hi)
    (Entails.of_eq (pay_xS X W c hi).symm)
    (Entails.of_eq ((slab_landed X W (nP c) (half c) (blk c (i + 4)) fd ((prodBlk_nP X W c hi).trans (read_logits X W c _ _).symm)).trans (pay_xR_nP X W c hi).symm))) $$ [Hs T1 T2 Hd HO]
  · isplitr; · iexact HC
    isplitl [Hs]; · iexact Hs
    isplitl [Hd]; · iexact Hd
    isplitl [HO]; · iexact HO
    isplitl [T1]; · iexact T1
    iexact T2
  iexact Hk

/-- What a wait on one of the shared cells takes: the units and the cell's position. -/
def awR (c : Dev nD) (k : Cl) (A : ℕ) : sProp 𝕄 := iprop(cr c k A ∗ at0 c k)

/-- A wait for one transfer: its payload, and the cell closed at zero. -/
theorem wp_wait1 (c : Dev nD) (k : Cl) (A : ℕ) (hd : dut k = {0}) (hA : amt k = A) {q : DmaSem sig} (hq : cs k = .dma q)
    {sp sp' : Space} {s : Shape} {e : EltTy} {src : Memref sig .tc sp s e} {dst : Memref sig .tc sp' s e} {hsrc : src.view.WordExact} {hdst : dst.view.WordExact}
    (hN : dst.view.dmaCredit = A) {O : CellTallies nD τ sig Unit} (hm : (levAts L lv : sProp 𝕄) ⊢ MayWait (c : Thread nD τ) (cs k) () O)
    {p : PUnit → P F} {Q : PUnit → sProp 𝕄} :
    iprop(ctx X W K ∗ awR c k A ∗ ow c O)
      ⊢ iprop(((pay X W c k 0 ∗ sv c q ∗ ow c O) -∗ WP c (p ⟨⟩) Q) -∗ WP c (.op (.waitDma2 q src dst hsrc hdst) p) Q) := by
  unfold awR
  iintro ⟨#HC, ⟨Hc, Ha⟩, HO⟩ Hk
  iapply (wp_round X W K c k A (by rw [hd, Finset.card_singleton, one_mul, hA]) (w := .waitDma2 q src dst hsrc hdst)
    (fun R => by rw [hq, ← hN]; exact wpE_waitDma2_eq 𝒱₀ (c : Thread nD τ) none Set.univ R) (O := O)) $$ [Hc Ha HO]
  · isplitr; · iexact HC
    isplitl [Hc]; · iexact Hc
    isplitl [HO]; · iexact HO
    isplitr; · iapply hm; iapply (ctx_lev X W K) $$ HC
    iexact Ha
  iintro ⟨HO, Ha, Hp⟩
  imod (Rounds.cell_close ER (sched X W) (Set.mem_univ (K (c, k))) (fun h => h) (R := 0 + 1) (duties_later X W (cell c k))) $$ [Ha] with Hz
  · isplitr; · iapply (ctx_inv X W K c k) $$ HC
    iexact Ha
  iapply Hk
  isplitl [Hp]
  · iapply (Entails.of_eq (show bigSep (dut k) (fun d => pay X W c k d) = pay X W c k 0 by rw [hd, bigSep_singleton])) $$ Hp
  isplitl [Hz]
  · iapply (Entails.of_eq (show (semVal (cell c k) 0 : sProp 𝕄) = sv c q by show semVal ((c : Thread nD τ), cs k) 0 = _; rw [hq])) $$ Hz
  iexact HO

theorem mayWait_zero (c : Dev nD) (sm : SemLoc sig) : (levAts L lv : sProp 𝕄) ⊢ MayWait (c : Thread nD τ) sm () 0 := by
  rw [MayWait_zero]; iintro -; iempintro

theorem wp_await (c : Dev nD) (k : Cl) (hd : dut k = {0}) (hA : amt k = N) {q : DmaSem sig} (hq : cs k = .dma q)
    {o : Fin 2 → Nat} {ho : ∀ a, o a + S256x2048.size a ≤ S512x32768.size a}
    {O : CellTallies nD τ sig Unit} (hm : (levAts L lv : sProp 𝕄) ⊢ MayWait (c : Thread nD τ) (cs k) () O) {p : P F} {Q : PUnit → sProp 𝕄} :
    iprop(ctx X W K ∗ awR c k N ∗ ow c O)
      ⊢ iprop(((pay X W c k 0 ∗ sv c q ∗ ow c O) -∗ WP c p Q) -∗ WP c (await q o ho p) Q) :=
  wp_wait1 X W K c k N hd hA hq (src := slabAt o ho) (dst := slabAt o ho) (hsrc := wE _) (hdst := wE _) rfl hm (p := fun _ => p)

end Cert.Softmax

end
-- ==== Proof.Rings.lean ====
/-
# The three loops of the ring

The own blocks are computed and sent (`wp_ownLoop`); the first eight arrivals are relayed (`wp_relayLoop`); the last four end the
ring (`wp_lastLoop`). Each loop is one step proved at a symbolic counter, and the rule `wp_loop`.
-/
module

public import proofs.«01_k».proof.Proof.Stages

@[expose] public section

noncomputable section

namespace Cert.Softmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Dev nD → Vec F S512x1024 .f32) (W : Dev nD → Vec F S1024x8192 .f32)
variable (K : Dev nD × Cl → ℕ)

/-! ## The rule of a loop, and families over a range -/

theorem wp_loop (c : Dev nD) {A : Type} {body : ℕ → A → (A → P F) → P F} (Inv : ℕ → A → sProp 𝕄) {Q : PUnit → sProp 𝕄} (n : ℕ)
    (step : ∀ i, i < n → ∀ a k, Inv i a ⊢ iprop((∀ a', Inv (i + 1) a' -∗ WP c (k a') Q) -∗ WP c (body i a k) Q)) :
    ∀ f i a (k : A → P F), i + f = n → Inv i a ⊢ iprop((∀ a', Inv n a' -∗ WP c (k a') Q) -∗ WP c (loop body f i a k) Q)
  | 0, i, a, k, h => by
    obtain rfl : i = n := h
    iintro HI Hk
    ihave Hk := Hk $$ %a
    iapply Hk $$ HI
  | f + 1, i, a, k, h => by
    iintro HI Hk
    iapply (step i (by omega) a fun a' => loop body f (i + 1) a' k) $$ HI
    iintro %a' HI
    iapply (wp_loop c Inv n step f (i + 1) a' k (by omega)) $$ HI
    iexact Hk

theorem range_push (Φ : ℕ → sProp 𝕄) (n : ℕ) : bigSep (Finset.range (n + 1)) Φ = iprop(Φ n ∗ bigSep (Finset.range n) Φ) := by
  rw [Finset.range_add_one]; exact bigSep_insert Finset.notMem_range_self
theorem ico_peel (Φ : ℕ → sProp 𝕄) {i n : ℕ} (h : i < n) : bigSep (Finset.Ico i n) Φ = iprop(Φ i ∗ bigSep (Finset.Ico (i + 1) n) Φ) := by
  rw [← Finset.insert_Ico_add_one_left_eq_Ico h]
  exact bigSep_insert (fun hm => by rw [Finset.mem_Ico] at hm; omega)
theorem ico_push (Φ : ℕ → sProp 𝕄) {i n : ℕ} (h : i ≤ n) : bigSep (Finset.Ico i (n + 1)) Φ = iprop(Φ n ∗ bigSep (Finset.Ico i n) Φ) := by
  rw [← Finset.insert_Ico_right_eq_Ico_add_one h]
  exact bigSep_insert Finset.right_notMem_Ico
theorem ico_nil (Φ : ℕ → sProp 𝕄) (n : ℕ) : bigSep (Finset.Ico n n) Φ = iprop(emp) := by
  rw [Finset.Ico_self]; rfl
theorem range_get (Φ : ℕ → sProp 𝕄) {i n : ℕ} (h : i < n) : bigSep (Finset.range n) Φ = iprop(Φ i ∗ bigSep ((Finset.range n).erase i) Φ) :=
  bigSep_erase (Finset.mem_range.mpr h)
theorem range_ico (Φ : ℕ → sProp 𝕄) (n : ℕ) : bigSep (Finset.range n) Φ = bigSep (Finset.Ico 0 n) Φ := by rw [Finset.range_eq_Ico]

/-! ## The parts of a half slab -/

/-- The own half slab: to the ring and for reading. -/
abbrev shO : PosShare TreeShare := fullShare.right

theorem slab_split2 (c : Dev nD) (a : Fin 2) (b : Fin 16) (f : Vec F S512x32768 .f32) :
    (slabP c a b fullShare f : sProp 𝕄) ⊣⊢ iprop(slabP c a b shY f ∗ slabP c a b shO f) :=
  pointsTo_share (PosShare.mem_left_op_right _)
theorem slab_split3 (c : Dev nD) (a : Fin 2) (b : Fin 16) (f : Vec F S512x32768 .f32) :
    (slabP c a b shO f : sProp 𝕄) ⊣⊢ iprop(slabP c a b shX f ∗ slabP c a b shR f) :=
  pointsTo_share (PosShare.mem_left_op_right _)

/-! ## The own blocks -/

/-- Before the own block `i`. -/
def ownInv (c : Dev nD) (i : ℕ) : sProp 𝕄 :=
  iprop(ctx X W K ∗ locR X W c ∗ ow c (Orem c i 0)
    ∗ (bigSep (Finset.range i) fun j => slabP c (half c) (blk c j) shO (logits X W c))
    ∗ (bigSep (Finset.Ico i 4) fun j => slabX c (half c) (blk c j))
    ∗ (bigSep (Finset.range i) fun j => cr c (.yS (f12 j)) N)
    ∗ bigSep (Finset.Ico i 12) fun j => ySR c j)

theorem wp_ownStep (c : Dev nD) {i : ℕ} (hi : i < 4) (a : Unit) (k : Unit → P F) {Q : PUnit → sProp 𝕄} :
    ownInv X W K c i ⊢ iprop((∀ a', ownInv X W K c (i + 1) -∗ WP c (k a') Q) -∗ WP c (ownStage c i a k) Q) := by
  unfold ownInv ownStage
  rw [ico_peel _ hi, ico_peel _ (show i < 12 by omega), range_push, range_push]
  iintro ⟨#HC, HL, HO, Hown, ⟨Hs, Hrest⟩, Hcr, ⟨Hy, Hys⟩⟩ Hk
  iapply (wp_gemm X W K c (half c) hi i 0 (rowOwn_eq c) (oOwn_eq c hi)) $$ [HL Hs HO]
  · isplitr; · iexact HC
    isplitl [HL]; · iexact HL
    isplitl [Hs]; · iexact Hs
    iexact HO
  iintro ⟨HL, Hs, HO⟩
  ihave Hs2 := (slab_split2 c (half c) (blk c i) (logits X W c)).1 $$ Hs
  icases Hs2 with ⟨HsY, HsO⟩
  iapply (wp_sendY X W K c (dR c) (dR_eq c) (show i < 12 by omega) 0 (oOwn_eq c hi)) $$ [HsY Hy HO]
  · isplitr; · iexact HC
    isplitl [HsY]; · iexact HsY
    isplitl [Hy]; · iexact Hy
    iexact HO
  iintro ⟨Hc, HO⟩
  ihave Hk := Hk $$ %()
  iapply Hk
  isplitr; · iexact HC
  isplitl [HL]; · iexact HL
  isplitl [HO]; · iexact HO
  isplitl [HsO Hown]
  · isplitl [HsO]; · iexact HsO
    iexact Hown
  isplitl [Hrest]; · iexact Hrest
  isplitl [Hc Hcr]
  · isplitl [Hc]; · iexact Hc
    iexact Hcr
  iexact Hys

/-! ## An arrival -/

theorem wp_landed (c : Dev nD) {i : ℕ} (hi : i < 12) (ny : ℕ) (s : St F) (k : St F → P F) {Q : PUnit → sProp 𝕄} :
    iprop(ctx X W K ∗ locR X W c ∗ slabP c (half c) (blk c (i + 4)) shO (logits X W c) ∗ xSR c i ∗ ow c (Orem c ny i))
      ⊢ iprop(((locR X W c ∗ slabP c (half c) (blk c (i + 4)) shR (logits X W c) ∗ cr c (.xS (f12 i)) N ∗ ow c (Orem c ny (i + 1)))
          -∗ WP c (k (upd s (prodBlk X W c (half c) (blk c (i + 4))))) Q) -∗ WP c (landed c i s k) Q) := by
  unfold landed
  iintro ⟨#HC, HL, Hs, Hx, HO⟩ Hk
  ihave Hs2 := (slab_split3 c (half c) (blk c (i + 4)) (logits X W c)).1 $$ Hs
  icases Hs2 with ⟨HsX, HsR⟩
  iapply (wp_sendX X W K c (dP c) (dP_eq c) hi ny (oGot_eq c hi)) $$ [HsX Hx HO]
  · isplitr; · iexact HC
    isplitl [HsX]; · iexact HsX
    isplitl [Hx]; · iexact Hx
    iexact HO
  iintro ⟨Hc, HO⟩
  iapply (wp_fold X W K c (half c) (blk c (i + 4)) shR ny (i + 1) (oGot_eq c hi)) $$ [HL HsR HO]
  · isplitr; · iexact HC
    isplitl [HL]; · iexact HL
    isplitl [HsR]; · iexact HsR
    iexact HO
  iintro ⟨HL, HsR, HO⟩
  iapply Hk
  isplitl [HL]; · iexact HL
  isplitl [HsR]; · iexact HsR
  isplitl [Hc]; · iexact Hc
  iexact HO

/-- The wait for the arrival `i`. -/
theorem wp_arrive (c : Dev nD) {i : ℕ} (hi : i < 12) {ny nx : ℕ} (hny : i < ny)
    {o : Fin 2 → Nat} {ho : ∀ a, o a + S256x2048.size a ≤ S512x32768.size a} {p : P F} {Q : PUnit → sProp 𝕄} :
    iprop(ctx X W K ∗ awR c (.yR (f12 i)) N ∗ ow c (Orem c ny nx))
      ⊢ iprop(((slabP c (half c) (blk c (i + 4)) fullShare (logits X W c) ∗ sv c (qYR (f12 i)) ∗ ow c (Orem c ny nx)) -∗ WP c p Q) -∗ WP c (await (qYR (f12 i)) o ho p) Q) := by
  rw [← pay_yR X W c hi]
  exact wp_await X W K c (.yR (f12 i)) rfl (amt_yR _) rfl
    (mayWait c _ ny nx (by rw [dec_cs]; show 2 + (f12 i).val < _; rw [f12_val hi]; omega) (by rw [dec_cs]; show 2 + (f12 i).val < _; rw [f12_val hi]; omega))

theorem stAt_relay (c : Dev nD) {i : ℕ} (hi : i < 8) : stAt X W c (i + 1) = upd (stAt X W c i) (prodBlk X W c (half c) (blk c (i + 4))) := by
  show (if i < 8 then _ else _) = _; exact if_pos hi
theorem stAt_last (c : Dev nD) {i : ℕ} (hi : 8 ≤ i) : stAt X W c (i + 1)
    = upd (upd (stAt X W c i) (prodBlk X W c (half c) (blk c (i + 4)))) (prodBlk X W c (half c) (blk c (i - 8))) := by
  show (if i < 8 then _ else _) = _; exact if_neg (by omega)

/-- The blocks of the other rows: the first `n` are computed. -/
def othInv (c : Dev nD) (n : ℕ) : sProp 𝕄 :=
  iprop((bigSep (Finset.range n) fun j => slabP c (halfO c) (blk c j) fullShare (logits X W c))
    ∗ (bigSep (Finset.Ico n 4) fun j => slabX c (halfO c) (blk c j)))

/-- At the even arrivals a block of the other rows is computed. -/
theorem wp_other (c : Dev nD) {i : ℕ} (hi : i < 8) (ny nx : ℕ) (p : P F) {Q : PUnit → sProp 𝕄} :
    iprop(ctx X W K ∗ locR X W c ∗ othInv X W c ((i + 1) / 2) ∗ ow c (Orem c ny nx))
      ⊢ iprop(((locR X W c ∗ othInv X W c ((i + 1 + 1) / 2) ∗ ow c (Orem c ny nx)) -∗ WP c p Q)
        -∗ WP c (if i % 2 = 0 then gemm (oW (i / 2)) (oW_inb _) (k0_off4 c) (k0_off4_inb c) (oOth c (i / 2)) (oOth_inb c _) p else p) Q) := by
  by_cases he : i % 2 = 0
  · rw [if_pos he, show (i + 1) / 2 = i / 2 by omega, show (i + 1 + 1) / 2 = i / 2 + 1 by omega]
    unfold othInv
    rw [ico_peel _ (show i / 2 < 4 by omega), range_push _ (i / 2)]
    iintro ⟨#HC, HL, ⟨Hoth, ⟨Hn, Hnot⟩⟩, HO⟩ Hk
    iapply (wp_gemm X W K c (halfO c) (show i / 2 < 4 by omega) ny nx (rowOth_eq c) (oOth_eq c (show i / 2 < 4 by omega))) $$ [HL Hn HO]
    · isplitr; · iexact HC
      isplitl [HL]; · iexact HL
      isplitl [Hn]; · iexact Hn
      iexact HO
    iintro ⟨HL, Hn, HO⟩
    iapply Hk
    isplitl [HL]; · iexact HL
    isplitr [HO]
    · isplitr [Hnot]
      · isplitl [Hn]; · iexact Hn
        iexact Hoth
      iexact Hnot
    iexact HO
  · rw [if_neg he, show (i + 1 + 1) / 2 = (i + 1) / 2 by omega]
    iintro ⟨#HC, HL, Ho, HO⟩ Hk
    iapply Hk
    isplitl [HL]; · iexact HL
    isplitl [Ho]; · iexact Ho
    iexact HO

/-- Before the relayed arrival `i`. -/
def relayInv (c : Dev nD) (i : ℕ) (s : St F) : sProp 𝕄 :=
  iprop(⌜s = stAt X W c i⌝ ∗ ctx X W K ∗ locR X W c ∗ ow c (Orem c (i + 4) i)
    ∗ (bigSep (Finset.range i) fun j => slabP c (half c) (blk c (j + 4)) shR (logits X W c))
    ∗ othInv X W c ((i + 1) / 2)
    ∗ (bigSep (Finset.range (i + 4)) fun j => cr c (.yS (f12 j)) N)
    ∗ (bigSep (Finset.range i) fun j => cr c (.xS (f12 j)) N)
    ∗ (bigSep (Finset.range i) fun j => sv c (qYR (f12 j)))
    ∗ (bigSep (Finset.Ico i 12) fun j => awR c (.yR (f12 j)) N)
    ∗ (bigSep (Finset.Ico (i + 4) 12) fun j => ySR c j)
    ∗ (bigSep (Finset.Ico i 12) fun j => xSR c j))

set_option maxHeartbeats 1000000 in
theorem wp_relayStep (c : Dev nD) {i : ℕ} (hi : i < 8) (s : St F) (k : St F → P F) {Q : PUnit → sProp 𝕄} :
    relayInv X W K c i s ⊢ iprop((∀ s', relayInv X W K c (i + 1) s' -∗ WP c (k s') Q) -∗ WP c (relayStage c i s k) Q) := by
  unfold relayInv relayStage
  rw [ico_peel (fun j => awR c (.yR (f12 j)) N) (show i < 12 by omega), ico_peel (fun j => ySR c j) (show i + 4 < 12 by omega), ico_peel (fun j => xSR c j) (show i < 12 by omega),
    range_push _ i, range_push _ i, range_push _ i, show i + 1 + 4 = i + 4 + 1 by omega, range_push _ (i + 4)]
  iintro ⟨%hs, #HC, HL, HO, Hgot, Hoth, HcY, HcX, Hz, ⟨Ha, Has⟩, ⟨Hy, Hys⟩, ⟨Hx, Hxs⟩⟩ Hk
  subst hs
  iapply (wp_arrive X W K c (show i < 12 by omega) (show i < i + 4 by omega)) $$ [Ha HO]
  · isplitr; · iexact HC
    isplitl [Ha]; · iexact Ha
    iexact HO
  iintro ⟨Hs, Hzi, HO⟩
  ihave Hs2 := (slab_split2 c (half c) (blk c (i + 4)) (logits X W c)).1 $$ Hs
  icases Hs2 with ⟨HsY, HsO⟩
  iapply (wp_sendY X W K c (dR c) (dR_eq c) (show i + 4 < 12 by omega) i (oGot_eq c (show i < 12 by omega))) $$ [HsY Hy HO]
  · isplitr; · iexact HC
    isplitl [HsY]; · iexact HsY
    isplitl [Hy]; · iexact Hy
    iexact HO
  iintro ⟨HcYi, HO⟩
  iapply (wp_landed X W K c (show i < 12 by omega) (i + 4 + 1) (stAt X W c i)) $$ [HL HsO Hx HO]
  · isplitr; · iexact HC
    isplitl [HL]; · iexact HL
    isplitl [HsO]; · iexact HsO
    isplitl [Hx]; · iexact Hx
    iexact HO
  iintro ⟨HL, HsR, HcXi, HO⟩
  rw [← stAt_relay X W c hi]
  ihave Hk := Hk $$ %(stAt X W c (i + 1))
  iapply (wp_other X W K c hi (i + 4 + 1) (i + 1) (k (stAt X W c (i + 1)))) $$ [HL Hoth HO]
  · isplitr; · iexact HC
    isplitl [HL]; · iexact HL
    isplitl [Hoth]; · iexact Hoth
    iexact HO
  iintro ⟨HL, Hoth, HO⟩
  iapply Hk
  isplitr; · ipureintro; rfl
  isplitr; · iexact HC
  isplitl [HL]; · iexact HL
  isplitl [HO]; · iexact HO
  isplitl [HsR Hgot]
  · isplitl [HsR]; · iexact HsR
    iexact Hgot
  isplitl [Hoth]; · iexact Hoth
  isplitl [HcYi HcY]
  · isplitl [HcYi]; · iexact HcYi
    iexact HcY
  isplitl [HcXi HcX]
  · isplitl [HcXi]; · iexact HcXi
    iexact HcX
  isplitl [Hzi Hz]
  · isplitl [Hzi]; · iexact Hzi
    iexact Hz
  isplitl [Has]; · iexact Has
  isplitl [Hys]; · iexact Hys
  iexact Hxs

/-- Before the last arrivals: nothing is sent to the right any more. -/
def lastInv (c : Dev nD) (i : ℕ) (s : St F) : sProp 𝕄 :=
  iprop(⌜s = stAt X W c i⌝ ∗ ctx X W K ∗ locR X W c ∗ ow c (Orem c 12 i)
    ∗ (bigSep (Finset.range 4) fun j => slabP c (half c) (blk c j) shO (logits X W c))
    ∗ (bigSep (Finset.range i) fun j => slabP c (half c) (blk c (j + 4)) shR (logits X W c))
    ∗ (bigSep (Finset.Ico 8 i) fun j => slabP c (half c) (blk c (j + 4)) shY (logits X W c))
    ∗ (bigSep (Finset.range i) fun j => cr c (.xS (f12 j)) N)
    ∗ (bigSep (Finset.range i) fun j => sv c (qYR (f12 j)))
    ∗ (bigSep (Finset.Ico i 12) fun j => awR c (.yR (f12 j)) N)
    ∗ (bigSep (Finset.Ico i 12) fun j => xSR c j))

set_option maxHeartbeats 1000000 in
theorem wp_lastStep (c : Dev nD) {i : ℕ} (h8 : 8 ≤ i) (hi : i < 12) (s : St F) (k : St F → P F) {Q : PUnit → sProp 𝕄} :
    lastInv X W K c i s ⊢ iprop((∀ s', lastInv X W K c (i + 1) s' -∗ WP c (k s') Q) -∗ WP c (lastStage c i s k) Q) := by
  unfold lastInv lastStage
  rw [ico_peel (fun j => awR c (.yR (f12 j)) N) hi, ico_peel (fun j => xSR c j) hi, ico_push _ h8, range_push _ i, range_push _ i, range_push _ i,
    range_get (fun j => slabP c (half c) (blk c j) shO (logits X W c)) (show i - 8 < 4 by omega)]
  iintro ⟨%hs, #HC, HL, HO, ⟨Ho, Hown⟩, Hgot, HgY, HcX, Hz, ⟨Ha, Has⟩, ⟨Hx, Hxs⟩⟩ Hk
  subst hs
  iapply (wp_arrive X W K c hi (show i < 12 by omega)) $$ [Ha HO]
  · isplitr; · iexact HC
    isplitl [Ha]; · iexact Ha
    iexact HO
  iintro ⟨Hs, Hzi, HO⟩
  ihave Hs2 := (slab_split2 c (half c) (blk c (i + 4)) (logits X W c)).1 $$ Hs
  icases Hs2 with ⟨HsY, HsO⟩
  iapply (wp_landed X W K c hi 12 (stAt X W c i)) $$ [HL HsO Hx HO]
  · isplitr; · iexact HC
    isplitl [HL]; · iexact HL
    isplitl [HsO]; · iexact HsO
    isplitl [Hx]; · iexact Hx
    iexact HO
  iintro ⟨HL, HsR, HcXi, HO⟩
  iapply (wp_fold2 X W K c (half c) (blk c (i - 8)) shO 12 (i + 1) (oOwn_eq c (show i - 8 < 4 by omega))) $$ [HL Ho HO]
  · isplitr; · iexact HC
    isplitl [HL]; · iexact HL
    isplitl [Ho]; · iexact Ho
    iexact HO
  iintro ⟨HL, Ho, HO⟩
  rw [← stAt_last X W c h8]
  ihave Hk := Hk $$ %(stAt X W c (i + 1))
  iapply Hk
  isplitr; · ipureintro; rfl
  isplitr; · iexact HC
  isplitl [HL]; · iexact HL
  isplitl [HO]; · iexact HO
  isplitl [Ho Hown]
  · isplitl [Ho]; · iexact Ho
    iexact Hown
  isplitl [HsR Hgot]
  · isplitl [HsR]; · iexact HsR
    iexact Hgot
  isplitl [HsY HgY]
  · isplitl [HsY]; · iexact HsY
    iexact HgY
  isplitl [HcXi HcX]
  · isplitl [HcXi]; · iexact HcXi
    iexact HcX
  isplitl [Hzi Hz]
  · isplitl [Hzi]; · iexact Hzi
    iexact Hz
  isplitl [Has]; · iexact Has
  iexact Hxs

end Cert.Softmax

end
-- ==== Proof.Norm.lean ====
/-
# The statistics' exchange, the normalising loop and the last waits
-/
module

public import proofs.«01_k».proof.Proof.Rings

@[expose] public section

noncomputable section

namespace Cert.Softmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Dev nD → Vec F S512x1024 .f32) (W : Dev nD → Vec F S1024x8192 .f32)
variable (K : Dev nD × Cl → ℕ)

/-! ## The statistics -/

theorem plane_setOn (p a : Fin 2) : (ssM : Memref sig .tc .vmem S2x512x128 .f32).view.setOn (Rect.unit (s := S2x512x128) (planeO p a) S1x256x128.size (planeO_inb p a)).toLoadRect.set
    ⊆ (stat a).view.set := by
  intro i hi
  refine plane_subset p a ?_
  rw [show (ssM.access (Rect.unit (s := S2x512x128) (planeO p a) S1x256x128.size (planeO_inb p a)) : View sig .tc _ _ _).set = _ from View.set_slice_whole _ _]
  obtain ⟨x, hx, rfl⟩ := Finset.mem_map.mp hi
  exact hx

theorem wp_putStats (c : Dev nD) (f : Vec F S2x512x128 .f32) {o o' : Fin 3 → Nat} {ho : ∀ a, o a + S1x256x128.size a ≤ S2x512x128.size a}
    {ho' : ∀ a, o' a + S1x256x128.size a ≤ S2x512x128.size a} (e : o = planeO 0 (half c)) (e' : o' = planeO 1 (half c)) {k : P F} {Q : PUnit → sProp 𝕄} :
    statP c (half c) f ⊢ iprop((statP c (half c) (stats X W c) -∗ WP c k Q)
      -∗ WP c (putStat o ho (st X W c).1 <| putStat o' ho' (st X W c).2 k) Q) := by
  subst e e'
  unfold putStat
  iintro H Hk
  iapply (wp_load 𝒱₀ (c : Thread nD τ) none Set.univ (m := ssM) (plane_setOn 0 (half c))) $$ H
  iintro H
  iapply (wp_store 𝒱₀ (c : Thread nD τ) none Set.univ (m := ssM) (Mk := Finset.univ) (plane_subset 0 (half c))) $$ H
  iintro H
  iapply (wp_load 𝒱₀ (c : Thread nD τ) none Set.univ (m := ssM) (plane_setOn 1 (half c))) $$ H
  iintro H
  iapply (wp_store 𝒱₀ (c : Thread nD τ) none Set.univ (m := ssM) (Mk := Finset.univ) (plane_subset 1 (half c))) $$ H
  iintro H
  iapply Hk
  iapply (Entails.of_eq (pointsTo_congr fun i hi => stored_stats X W c f hi)) $$ H

theorem stat_join (c : Dev nD) (f : Vec F S2x512x128 .f32) :
    (buf c cc0_scratch4 f : sProp 𝕄) ⊣⊢ iprop(statP c (half c) f ∗ statP c (halfO c) f) := by
  have h : ((c : Thread nD τ).loc cc0_scratch4 ↦[(stat (half c)).view.set ∪ (stat (halfO c)).view.set]{fullShare} f : sProp 𝕄)
      ⊣⊢ iprop(statP c (half c) f ∗ statP c (halfO c) f) := pointsTo_union (stat_disj c)
  rw [stat_halves c] at h
  exact h

theorem wp_swapStats (c n : Dev nD) (hn : n = nP c) {o : Fin 3 → Nat} {ho : ∀ a, o a + S2x256x128.size a ≤ S2x512x128.size a} (e : o = statO (half c))
    {k : Vec F S1x512x1 .f32 → Vec F S1x512x1 .f32 → P F} {Q : PUnit → sProp 𝕄} :
    iprop(ctx X W K ∗ statP c (half c) (stats X W c) ∗ (∃ f, statP (nP c) (half c) f) ∗ tk c .stS ∗ tk (nP c) .stR ∗ at0 c .stS ∗ awR c .stR NS ∗ ow c (Orem c 12 12))
      ⊢ iprop(((buf c cc0_scratch4 (stats X W c) ∗ sv c qStS ∗ sv c qStR ∗ ow c 0)
          -∗ WP c (k (ssM.view.readAt (Elt F) (lane 0).toLoadRect (stats X W c)) (ssM.view.readAt (Elt F) (lane 1).toLoadRect (stats X W c))) Q)
        -∗ WP c (swapStats n o ho k) Q) := by
  subst hn e
  unfold swapStats
  iintro ⟨#HC, Hs, ⟨%fd, Hd⟩, T1, T2, HaS, HaR, HO⟩ Hk
  iapply (wp_remote X W K c (nP c) .stS .stR NS (Finset.mem_singleton_self _) (Finset.mem_singleton_self _) amt_stS amt_stR
    (src := stat (half c)) (dst := stat (half c)) rfl (fd := fd) 0 (Orem_end c) (Entails.refl _)
    (Entails.of_eq ((stat_landed X W (nP c) (half c) fd (read_stats_pair X W c)).trans
      (show _ = statP (nP c) (halfO (nP c)) (stats X W (nP c)) by rw [halfO_nP])))) $$ [Hs T1 T2 Hd HO]
  · isplitr; · iexact HC
    isplitl [Hs]; · iexact Hs
    isplitl [Hd]; · iexact Hd
    isplitl [HO]; · iexact HO
    isplitl [T1]; · iexact T1
    iexact T2
  iintro ⟨Hc, HO⟩
  iapply (wp_wait1 X W K c .stS NS rfl amt_stS rfl (src := stat (half c)) (dst := stat (half c)) (hsrc := wE _) (hdst := wE _) rfl (mayWait_zero c _)) $$ [Hc HaS HO]
  · isplitr; · iexact HC
    isplitl [Hc HaS]
    · unfold awR
      isplitl [Hc]; · iexact Hc
      iexact HaS
    iexact HO
  iintro ⟨Hs, HzS, HO⟩
  iapply (wp_wait1 X W K c .stR NS rfl amt_stR rfl (src := stat (half c)) (dst := stat (half c)) (hsrc := wE _) (hdst := wE _) rfl (mayWait_zero c _)) $$ [HaR HO]
  · isplitr; · iexact HC
    isplitl [HaR]; · iexact HaR
    iexact HO
  iintro ⟨Hr, HzR, HO⟩
  ihave Hb := (stat_join c (stats X W c)).2 $$ [Hs Hr]
  · isplitl [Hs]; · iapply (Entails.of_eq (show pay X W c .stS 0 = statP c (half c) (stats X W c) from rfl)) $$ Hs
    iapply (Entails.of_eq (show pay X W c .stR 0 = statP c (halfO c) (stats X W c) from rfl)) $$ Hr
  iapply (wp_load 𝒱₀ (c : Thread nD τ) none Set.univ (m := ssM) (Finset.subset_univ _)) $$ Hb
  iintro Hb
  iapply (wp_load 𝒱₀ (c : Thread nD τ) none Set.univ (m := ssM) (Finset.subset_univ _)) $$ Hb
  iintro Hb
  iapply Hk
  isplitl [Hb]; · iexact Hb
  isplitl [HzS]; · iexact HzS
  isplitl [HzR]; · iexact HzR
  iexact HO

/-! ## A column block -/

abbrev colP (c : Dev nD) (b : Fin 16) (f : Vec F S512x32768 .f32) : sProp 𝕄 :=
  (col b).view.loc (c : Thread nD τ) ↦[(col b).view.set]{fullShare} f

def tileP (c : Dev nD) : Bool → Vec F S512x2048 .f32 → sProp 𝕄
  | false, f => buf c cc0_scratch0 f
  | true, f => buf c cc0_scratch1 f
def tileX (c : Dev nD) (b : Bool) : sProp 𝕄 := iprop(∃ f, tileP (F := F) c b f)

theorem tile_src (c : Dev nD) (b : Ref sig .tc) (f : b.ty.Contents (Elt F)) :
    ((Memref.whole b).view.loc (c : Thread nD τ) ↦[(Memref.whole b).view.set]{fullShare} f : sProp 𝕄) = buf c b f := by
  show (((c : Thread nD τ).loc b) ↦[(Memref.whole b).view.set]{fullShare} f : sProp 𝕄) = _
  rw [show (Memref.whole b).view.set = Finset.univ from View.set_whole _]

abbrev NC : ℕ := (col 0).view.dmaCredit
abbrev NT : ℕ := tM.view.dmaCredit

/-- A load of a column block into a tile under way, and a store out of one. -/
def FlIn (c : Dev nD) (t : Bool) (b : Fin 16) : sProp 𝕄 :=
  Transfers.Flight EC (c : Thread nD τ) (.dma (qIn t)) () (bufM t).view.dmaCredit iprop(tileP c t (colIn X W c b) ∗ colP c b (logits X W c))
def FlOut (c : Dev nD) (t : Bool) (b : Fin 16) : sProp 𝕄 :=
  Transfers.Flight EC (c : Thread nD τ) (.dma (qOut t)) () (col b).view.dmaCredit iprop(colP c b (final X W c) ∗ tileX c t)

theorem wp_loadCol (c : Dev nD) (t : Bool) (b : Fin 16) {cc : Col} (hc : cc = ⟨colO b, colO_inb b⟩) {k : P F} {Q : PUnit → sProp 𝕄} :
    iprop(tileX c t ∗ colP c b (logits X W c) ∗ sv c (qIn t)) ⊢ iprop((FlIn X W c t b -∗ WP c k Q) -∗ WP c (loadCol t cc k) Q) := by
  subst hc
  unfold tileX loadCol
  cases t
  all_goals
    iintro ⟨⟨%ft, Ht⟩, Hc, Hv⟩ Hk
    unfold tileP
    iapply (Transfers.wp_dmaLocal EC 𝒱₀ (c : Thread nD τ) none () _ rfl (View.dmaCredit_pos _ (by decide)) (Finset.subset_univ _)) $$ [Ht Hc Hv]
    · isplitl [Hc]; · iexact Hc
      isplitl [Ht]; · iexact Ht
      iexact Hv
    iintro Hf
    iapply Hk
    unfold FlIn
    iapply (Transfers.Flight_mono EC ?_) $$ Hf
    refine sep_mono_left (Entails.of_eq ?_)
    unfold tileP
    exact congrArg _ (View.write_whole_univ _ _ _)

theorem wp_loadedCol (c : Dev nD) (t : Bool) (b : Fin 16) {cc : Col} (hc : cc = ⟨colO b, colO_inb b⟩) {k : P F} {Q : PUnit → sProp 𝕄} :
    iprop(FlIn X W c t b ∗ ow c 0) ⊢ iprop(((tileP c t (colIn X W c b) ∗ colP c b (logits X W c) ∗ sv c (qIn t) ∗ ow c 0) -∗ WP c k Q) -∗ WP c (loadedCol t cc k) Q) := by
  unfold FlIn loadedCol ow
  iintro ⟨Hf, ⟨%Ws, HO⟩⟩ Hk
  iapply (Transfers.wp_waitLocalO EC 𝒱₀ (c : Thread nD τ) none () rfl) $$ [Hf HO]
  · isplitl [Hf]; · iexact Hf
    isplitl [HO]; · iexact HO
    rw [MayWait_zero]; iempintro
  iintro ⟨⟨Ht, Hc⟩, Hv, HO⟩
  iapply Hk
  isplitl [Ht]; · iexact Ht
  isplitl [Hc]; · iexact Hc
  isplitl [Hv]; · iexact Hv
  iexists _; iexact HO

theorem wp_normCol (c : Dev nD) (t : Bool) (v : FVec F S512x1 .f32) (f : Vec F S512x2048 .f32) {k : P F} {Q : PUnit → sProp 𝕄} :
    tileP c t f ⊢ iprop((tileP c t (normPay v f) -∗ WP c k Q) -∗ WP c (normCol t v k) Q) := by
  unfold normCol
  cases t
  · unfold tileP
    iintro Ht Hk
    iapply (wp_load 𝒱₀ (c : Thread nD τ) none Set.univ (m := tM) (Finset.subset_univ _)) $$ Ht
    iintro Ht
    iapply (wp_load 𝒱₀ (c : Thread nD τ) none Set.univ (m := tM) (Finset.subset_univ _)) $$ Ht
    iintro Ht
    iapply (wp_store 𝒱₀ (c : Thread nD τ) none Set.univ (m := tM) (r := wholeRect) (Mk := Finset.univ) (Finset.subset_univ _)) $$ Ht
    iintro Ht
    have e1 : (tM : Memref sig .tc .vmem S512x2048 .f32).view.readAt (Elt F) wholeRect.toLoadRect f = f := Memref.readAt_unit_zero (Elt F) cc0_scratch0 hz2 _ _
    have e2 : ∀ w : Vec F S512x2048 .f32, ((tM : Memref sig .tc .vmem S512x2048 .f32).access wholeRect : View sig .tc _ _ _).write (Elt F) f w Finset.univ = w :=
      fun w => Memref.write_access_unit_zero_univ (Elt F) cc0_scratch0 hz2 _ f w
    iapply Hk
    iapply (Entails.of_eq (congrArg (fun g => (buf c cc0_scratch0 g : sProp 𝕄)) ((e2 _).trans (congrArg (normPay v) e1)))) $$ Ht
  · unfold tileP
    iintro Ht Hk
    iapply (wp_load 𝒱₀ (c : Thread nD τ) none Set.univ (m := t2M) (Finset.subset_univ _)) $$ Ht
    iintro Ht
    iapply (wp_load 𝒱₀ (c : Thread nD τ) none Set.univ (m := t2M) (Finset.subset_univ _)) $$ Ht
    iintro Ht
    iapply (wp_store 𝒱₀ (c : Thread nD τ) none Set.univ (m := t2M) (r := wholeRect) (Mk := Finset.univ) (Finset.subset_univ _)) $$ Ht
    iintro Ht
    have e1 : (t2M : Memref sig .tc .vmem S512x2048 .f32).view.readAt (Elt F) wholeRect.toLoadRect f = f := Memref.readAt_unit_zero (Elt F) cc0_scratch1 hz2 _ _
    have e2 : ∀ w : Vec F S512x2048 .f32, ((t2M : Memref sig .tc .vmem S512x2048 .f32).access wholeRect : View sig .tc _ _ _).write (Elt F) f w Finset.univ = w :=
      fun w => Memref.write_access_unit_zero_univ (Elt F) cc0_scratch1 hz2 _ f w
    iapply Hk
    iapply (Entails.of_eq (congrArg (fun g => (buf c cc0_scratch1 g : sProp 𝕄)) ((e2 _).trans (congrArg (normPay v) e1)))) $$ Ht

/-- A column block rewritten with the normalised one is a column block of the result. -/
theorem col_landed (c : Dev nD) (b : Fin 16) (f : Vec F S512x32768 .f32) :
    ((col b).view.loc (c : Thread nD τ) ↦[(col b).view.set]{fullShare} ((col b).view.write (Elt F) f (colOut X W c b) Finset.univ) : sProp 𝕄)
      = colP c b (final X W c) :=
  pointsTo_congr fun i hi => write_on (col b).view (read_final X W c b) hi

theorem wp_storeCol (c : Dev nD) (t : Bool) (b : Fin 16) (g : Vec F S512x32768 .f32) {cc : Col} (hc : cc = ⟨colO b, colO_inb b⟩) {k : P F} {Q : PUnit → sProp 𝕄} :
    iprop(tileP c t (colOut X W c b) ∗ colP c b g ∗ sv c (qOut t)) ⊢ iprop((FlOut X W c t b -∗ WP c k Q) -∗ WP c (storeCol t cc k) Q) := by
  subst hc
  unfold storeCol
  cases t
  · iintro ⟨Ht, Hc, Hv⟩ Hk
    unfold tileP
    iapply (Transfers.wp_dmaLocal EC 𝒱₀ (c : Thread nD τ) none (src := tM) (dst := col b) () _ rfl (View.dmaCredit_pos _ (by decide)) (Finset.Subset.refl _)) $$ [Ht Hc Hv]
    · isplitl [Ht]; · iapply (Entails.of_eq (tile_src c cc0_scratch0 (colOut X W c b)).symm) $$ Ht
      isplitl [Hc]; · iexact Hc
      iexact Hv
    iintro Hf
    iapply Hk
    unfold FlOut
    iapply (Transfers.Flight_mono EC ?_) $$ Hf
    refine sep_mono (Entails.of_eq ?_) ?_
    · exact col_landed X W c b g
    · unfold tileX
      iintro H
      iexists (colOut X W c b)
      unfold tileP
      iapply (Entails.of_eq (tile_src c cc0_scratch0 (colOut X W c b))) $$ H
  · iintro ⟨Ht, Hc, Hv⟩ Hk
    unfold tileP
    iapply (Transfers.wp_dmaLocal EC 𝒱₀ (c : Thread nD τ) none (src := t2M) (dst := col b) () _ rfl (View.dmaCredit_pos _ (by decide)) (Finset.Subset.refl _)) $$ [Ht Hc Hv]
    · isplitl [Ht]; · iapply (Entails.of_eq (tile_src c cc0_scratch1 (colOut X W c b)).symm) $$ Ht
      isplitl [Hc]; · iexact Hc
      iexact Hv
    iintro Hf
    iapply Hk
    unfold FlOut
    iapply (Transfers.Flight_mono EC ?_) $$ Hf
    refine sep_mono (Entails.of_eq ?_) ?_
    · exact col_landed X W c b g
    · unfold tileX
      iintro H
      iexists (colOut X W c b)
      unfold tileP
      iapply (Entails.of_eq (tile_src c cc0_scratch1 (colOut X W c b))) $$ H

theorem wp_storedCol (c : Dev nD) (t : Bool) (b : Fin 16) {cc : Col} (hc : cc = ⟨colO b, colO_inb b⟩) {k : P F} {Q : PUnit → sProp 𝕄} :
    iprop(FlOut X W c t b ∗ ow c 0) ⊢ iprop(((colP c b (final X W c) ∗ tileX c t ∗ sv c (qOut t) ∗ ow c 0) -∗ WP c k Q) -∗ WP c (storedCol t cc k) Q) := by
  unfold FlOut storedCol ow
  iintro ⟨Hf, ⟨%Ws, HO⟩⟩ Hk
  iapply (Transfers.wp_waitLocalO EC 𝒱₀ (c : Thread nD τ) none () rfl) $$ [Hf HO]
  · isplitl [Hf]; · iexact Hf
    isplitl [HO]; · iexact HO
    rw [MayWait_zero]; iempintro
  iintro ⟨⟨Hc, Ht⟩, Hv, HO⟩
  iapply Hk
  isplitl [Hc]; · iexact Hc
  isplitl [Ht]; · iexact Ht
  isplitl [Hv]; · iexact Hv
  iexists _; iexact HO

/-! ## The normalising loop -/

theorem par_succ (i : ℕ) : par (i + 1) = !par i := by
  unfold par; rcases Nat.mod_two_eq_zero_or_one i with h | h
  · rw [h, show (i + 1) % 2 = 1 by omega]; rfl
  · rw [h, show (i + 1) % 2 = 0 by omega]; rfl

/-- The tiles and the four semaphores of the loop. -/
abbrev normR (c : Dev nD) : sProp 𝕄 :=
  iprop(tileX c false ∗ tileX c true ∗ sv c (qIn false) ∗ sv c (qIn true) ∗ sv c (qOut false) ∗ sv c (qOut true))

/-- Before the pass `i`: the column `i` is on its way in, the column before it on its way out. -/
def normInv (c : Dev nD) (B : ℕ → Fin 16) (n i : ℕ) : sProp 𝕄 :=
  iprop(⌜1 ≤ i⌝ ∗ FlIn X W c (par i) (B i) ∗ FlOut X W c (!par i) (B (i - 1)) ∗ sv c (qOut (par i)) ∗ sv c (qIn (!par i))
    ∗ (bigSep (Finset.Ico (i + 1) n) fun j => colP c (B j) (logits X W c)) ∗ (bigSep (Finset.range (i - 1)) fun j => colP c (B j) (final X W c)) ∗ ow c 0)

theorem wp_normStep (c : Dev nD) (B : ℕ → Fin 16) (co : ℕ → Col) (f : ℕ) (hco : ∀ i, i < f + 2 → co i = ⟨colO (B i), colO_inb (B i)⟩)
    {i : ℕ} (hi : i < f + 1) (k : P F) {Q : PUnit → sProp 𝕄} :
    normInv X W c B (f + 2) i ⊢ iprop((normInv X W c B (f + 2) (i + 1) -∗ WP c k Q)
      -∗ WP c (loadedCol (par i) (co i) <| storedCol (!par i) (co (i - 1)) <| loadCol (!par i) (co (i + 1)) <|
          normCol (par i) (offs X W c) <| storeCol (par i) (co i) k) Q) := by
  unfold normInv
  rw [ico_peel _ (show i + 1 < f + 2 by omega), par_succ, Bool.not_not, Nat.add_sub_cancel]
  iintro ⟨%h1, Hin, Hout, HvO, HvI, ⟨Hc1, Hcs⟩, Hdone, HO⟩ Hk
  iapply (wp_loadedCol X W c (par i) (B i) (hco i (by omega))) $$ [Hin HO]
  · isplitl [Hin]; · iexact Hin
    iexact HO
  iintro ⟨Ht, Hc, HvI', HO⟩
  iapply (wp_storedCol X W c (!par i) (B (i - 1)) (hco (i - 1) (by omega))) $$ [Hout HO]
  · isplitl [Hout]; · iexact Hout
    iexact HO
  iintro ⟨Hd, Ht', HvO', HO⟩
  iapply (wp_loadCol X W c (!par i) (B (i + 1)) (hco (i + 1) (by omega))) $$ [Ht' Hc1 HvI]
  · isplitl [Ht']; · iexact Ht'
    isplitl [Hc1]; · iexact Hc1
    iexact HvI
  iintro Hin
  iapply (wp_normCol c (par i) (offs X W c) (colIn X W c (B i))) $$ Ht
  iintro Ht
  iapply (wp_storeCol X W c (par i) (B i) (logits X W c) (hco i (by omega))) $$ [Ht Hc HvO]
  · isplitl [Ht]; · iexact Ht
    isplitl [Hc]; · iexact Hc
    iexact HvO
  iintro Hout
  iapply Hk
  isplitr; · ipureintro; omega
  isplitl [Hin]; · iexact Hin
  isplitl [Hout]; · iexact Hout
  isplitl [HvO']; · iexact HvO'
  isplitl [HvI']; · iexact HvI'
  isplitl [Hcs]; · iexact Hcs
  isplitl [Hd Hdone]
  · iapply (Entails.of_eq (show iprop(colP c (B (i - 1)) (final X W c) ∗ bigSep (Finset.range (i - 1)) fun j => colP c (B j) (final X W c))
        = bigSep (Finset.range i) (fun j => colP c (B j) (final X W c)) by
      rw [← range_push (fun j => colP c (B j) (final X W c)) (i - 1), Nat.sub_add_cancel h1]))
    isplitl [Hd]; · iexact Hd
    iexact Hdone
  iexact HO

theorem normR_of (c : Dev nD) (b : Bool) :
    iprop(tileX c b ∗ tileX c (!b) ∗ sv c (qIn b) ∗ sv c (qIn (!b)) ∗ sv c (qOut b) ∗ sv c (qOut (!b))) ⊢ (normR c : sProp 𝕄) := by
  unfold normR
  cases b
  · exact Entails.refl _
  · iintro ⟨H1, H2, H3, H4, H5, H6⟩
    isplitl [H2]; · iexact H2
    isplitl [H1]; · iexact H1
    isplitl [H4]; · iexact H4
    isplitl [H3]; · iexact H3
    isplitl [H6]; · iexact H6
    iexact H5

set_option maxHeartbeats 1000000 in
theorem wp_normLoop (c : Dev nD) (B : ℕ → Fin 16) (co : ℕ → Col) (f : ℕ) (hco : ∀ i, i < f + 2 → co i = ⟨colO (B i), colO_inb (B i)⟩)
    {k : P F} {Q : PUnit → sProp 𝕄} :
    iprop(normR c ∗ (bigSep (Finset.range (f + 2)) fun j => colP c (B j) (logits X W c)) ∗ ow c 0)
      ⊢ iprop(((normR c ∗ (bigSep (Finset.range (f + 2)) fun j => colP c (B j) (final X W c)) ∗ ow c 0) -∗ WP c k Q)
        -∗ WP c (normLoop (offs X W c) co f k) Q) := by
  unfold normLoop
  rw [range_ico _ (f + 2), ico_peel _ (show 0 < f + 2 by omega), ico_peel _ (show 0 + 1 < f + 2 by omega)]
  iintro ⟨Hn, ⟨Hc0, Hc1, Hcs⟩, HO⟩ Hk
  unfold normR
  icases Hn with ⟨Ht0, Ht1, HI0, HI1, HO0, HO1⟩
  iapply (wp_loadCol X W c false (B 0) (hco 0 (by omega))) $$ [Ht0 Hc0 HI0]
  · isplitl [Ht0]; · iexact Ht0
    isplitl [Hc0]; · iexact Hc0
    iexact HI0
  iintro Hin
  iapply (wp_loadedCol X W c false (B 0) (hco 0 (by omega))) $$ [Hin HO]
  · isplitl [Hin]; · iexact Hin
    iexact HO
  iintro ⟨Ht0, Hc0, HI0, HO⟩
  iapply (wp_loadCol X W c true (B 1) (hco 1 (by omega))) $$ [Ht1 Hc1 HI1]
  · isplitl [Ht1]; · iexact Ht1
    isplitl [Hc1]; · iexact Hc1
    iexact HI1
  iintro Hin
  iapply (wp_normCol c false (offs X W c) (colIn X W c (B 0))) $$ Ht0
  iintro Ht0
  iapply (wp_storeCol X W c false (B 0) (logits X W c) (hco 0 (by omega))) $$ [Ht0 Hc0 HO0]
  · isplitl [Ht0]; · iexact Ht0
    isplitl [Hc0]; · iexact Hc0
    iexact HO0
  iintro Hout
  iapply (wp_loop c (A := Unit) (fun i _ => normInv X W c B (f + 2) i) (f + 1)
    (fun i hi a p => by
      iintro H Hp
      iapply (wp_normStep X W c B co f hco hi (p ())) $$ H
      iintro H
      ihave Hp := Hp $$ %()
      iapply Hp $$ H) f 1 () _ (by omega)) $$ [Hin Hout HO1 HI0 Hcs HO]
  · unfold normInv
    isplitr; · ipureintro; exact le_refl 1
    isplitl [Hin]; · iexact Hin
    isplitl [Hout]; · iexact Hout
    isplitl [HO1]; · iexact HO1
    isplitl [HI0]; · iexact HI0
    isplitl [Hcs]; · iexact Hcs
    isplitr; · iempintro
    iexact HO
  iintro %a H
  unfold normInv
  icases H with ⟨-, Hin, Hout, HvO, HvI, -, Hdone, HO⟩
  iapply (wp_loadedCol X W c (par (f + 1)) (B (f + 1)) (hco (f + 1) (by omega))) $$ [Hin HO]
  · isplitl [Hin]; · iexact Hin
    iexact HO
  iintro ⟨Ht, Hc, HvI', HO⟩
  iapply (wp_normCol c (par (f + 1)) (offs X W c) (colIn X W c (B (f + 1)))) $$ Ht
  iintro Ht
  iapply (wp_storeCol X W c (par (f + 1)) (B (f + 1)) (logits X W c) (hco (f + 1) (by omega))) $$ [Ht Hc HvO]
  · isplitl [Ht]; · iexact Ht
    isplitl [Hc]; · iexact Hc
    iexact HvO
  iintro Hout2
  iapply (wp_storedCol X W c (!par (f + 1)) (B f) (hco f (by omega))) $$ [Hout HO]
  · isplitl [Hout]; · iexact Hout
    iexact HO
  iintro ⟨Hd, Ht', HvO', HO⟩
  iapply (wp_storedCol X W c (par (f + 1)) (B (f + 1)) (hco (f + 1) (by omega))) $$ [Hout2 HO]
  · isplitl [Hout2]; · iexact Hout2
    iexact HO
  iintro ⟨Hd2, Ht, HvO, HO⟩
  iapply Hk
  isplitl [Ht Ht' HvI HvI' HvO HvO']
  · iapply (normR_of c (par (f + 1)))
    isplitl [Ht]; · iexact Ht
    isplitl [Ht']; · iexact Ht'
    isplitl [HvI']; · iexact HvI'
    isplitl [HvI]; · iexact HvI
    isplitl [HvO]; · iexact HvO
    iexact HvO'
  isplitr [HO]
  · iapply (Entails.of_eq (range_push (fun j => colP c (B j) (final X W c)) (f + 1)).symm)
    isplitl [Hd2]; · iexact Hd2
    iapply (Entails.of_eq (range_push (fun j => colP c (B j) (final X W c)) f).symm)
    isplitl [Hd]; · iexact Hd
    iexact Hdone
  iexact HO

/-! ## The last waits -/

theorem wp_drain (c : Dev nD) (kk : ℕ → Cl) (qq : ℕ → DmaSem sig) (oo : ℕ → Fin 2 → Nat) (ho : ∀ i, ∀ a, oo i a + S256x2048.size a ≤ S512x32768.size a)
    (hd : ∀ i, dut (kk i) = {0}) (hA : ∀ i, amt (kk i) = N) (hq : ∀ i, cs (kk i) = .dma (qq i))
    (i₀ f : ℕ) (pp : ℕ → sProp 𝕄) (hp : ∀ i, i < i₀ + f → pay X W c (kk i) 0 = pp i) {k : Unit → P F} {Q : PUnit → sProp 𝕄} :
    iprop(ctx X W K ∗ (bigSep (Finset.Ico i₀ (i₀ + f)) fun i => awR c (kk i) N) ∗ ow c 0)
      ⊢ iprop((((bigSep (Finset.Ico i₀ (i₀ + f)) pp) ∗ (bigSep (Finset.Ico i₀ (i₀ + f)) fun i => sv c (qq i)) ∗ ow c 0) -∗ WP c (k ()) Q)
        -∗ WP c (loop (fun i (_ : Unit) k => await (qq i) (oo i) (ho i) (k ())) f i₀ () k) Q) := by
  iintro ⟨#HC, Ha, HO⟩ Hk
  iapply (wp_loop c (A := Unit) (fun i _ => iprop(⌜i₀ ≤ i⌝ ∗ ctx X W K ∗ (bigSep (Finset.Ico i (i₀ + f)) fun i => awR c (kk i) N)
      ∗ (bigSep (Finset.Ico i₀ i) pp) ∗ (bigSep (Finset.Ico i₀ i) fun i => sv c (qq i)) ∗ ow c 0)) (i₀ + f)
    (fun i hi a p => by
      rw [ico_peel _ hi]
      iintro ⟨%h0, #HC, ⟨Ha, Has⟩, Hp, Hz, HO⟩ Hk
      iapply (wp_await X W K c (kk i) (hd i) (hA i) (hq i) (mayWait_zero c _)) $$ [Ha HO]
      · isplitr; · iexact HC
        isplitl [Ha]; · iexact Ha
        iexact HO
      iintro ⟨Hpi, Hzi, HO⟩
      ihave Hk := Hk $$ %()
      iapply Hk
      isplitr; · ipureintro; omega
      isplitr; · iexact HC
      isplitl [Has]; · iexact Has
      isplitl [Hp Hpi]
      · iapply (Entails.of_eq (ico_push pp h0).symm)
        isplitl [Hpi]; · iapply (Entails.of_eq (hp i hi)) $$ Hpi
        iexact Hp
      isplitl [Hz Hzi]
      · iapply (Entails.of_eq (ico_push (fun i => sv c (qq i)) h0).symm)
        isplitl [Hzi]; · iexact Hzi
        iexact Hz
      iexact HO) f i₀ () k rfl) $$ [Ha HO]
  · isplitr; · ipureintro; exact le_refl _
    isplitr; · iexact HC
    isplitl [Ha]; · iexact Ha
    isplitr; · rw [ico_nil]; iempintro
    isplitr; · rw [ico_nil]; iempintro
    iexact HO
  iintro %a ⟨-, -, -, Hp, Hz, HO⟩
  iapply Hk
  isplitl [Hp]; · iexact Hp
  isplitl [Hz]; · iexact Hz
  iexact HO

end Cert.Softmax

end
-- ==== Proof.Start.lean ====
/-
# The start of the body: the result's buffer cut into half slabs, and the handshake

At its start a device gives the half slabs others will write to the device that writes them, with a signal of its barrier
semaphore, and waits for the three signals of its own.
-/
module

public import proofs.«01_k».proof.Proof.Norm

@[expose] public section

noncomputable section

namespace Cert.Softmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Dev nD → Vec F S512x1024 .f32) (W : Dev nD → Vec F S1024x8192 .f32)
variable (K : Dev nD × Cl → ℕ)

/-! ## Families over ranges -/

theorem ico_cat (Φ : ℕ → sProp 𝕄) {a b d : ℕ} (h₁ : a ≤ b) (h₂ : b ≤ d) :
    bigSep (Finset.Ico a d) Φ = iprop(bigSep (Finset.Ico a b) Φ ∗ bigSep (Finset.Ico b d) Φ) := by
  rw [← Finset.Ico_union_Ico_eq_Ico h₁ h₂]
  exact bigSep_union (Finset.Ico_disjoint_Ico_consecutive a b d)
theorem ico_shift (Φ : ℕ → sProp 𝕄) (a b m : ℕ) : bigSep (Finset.Ico (a + m) (b + m)) Φ = bigSep (Finset.Ico a b) fun i => Φ (i + m) := by
  rw [← Finset.map_add_right_Ico]
  exact bigSep_map _
/-- The sixteen places: the own four and the twelve arrivals. -/
theorem range_16 (Φ : ℕ → sProp 𝕄) : bigSep (Finset.range 16) Φ = iprop(bigSep (Finset.range 4) Φ ∗ bigSep (Finset.range 12) fun i => Φ (i + 4)) := by
  rw [range_ico, range_ico, range_ico, ico_cat Φ (show 0 ≤ 4 by omega) (show 4 ≤ 16 by omega)]
  exact congrArg _ (ico_shift Φ 0 12 4)
theorem range_12 (Φ : ℕ → sProp 𝕄) : bigSep (Finset.range 12) Φ = iprop(bigSep (Finset.range 8) Φ ∗ bigSep (Finset.Ico 8 12) Φ) := by
  rw [range_ico, range_ico, ico_cat Φ (show 0 ≤ 8 by omega) (show 8 ≤ 12 by omega)]

/-- A family over the shared cells of a device. -/
theorem univ_cl : (Finset.univ : Finset Cl) = insert .bar (insert .stS (insert .stR ((Finset.range 12).image (fun i => Cl.yS (f12 i)) ∪
    ((Finset.range 12).image (fun i => Cl.yR (f12 i)) ∪ ((Finset.range 12).image (fun i => Cl.xS (f12 i)) ∪ (Finset.range 12).image fun i => Cl.xR (f12 i)))))) := by
  decide
theorem f12_inj {i j : ℕ} (hi : i < 12) (hj : j < 12) (h : f12 i = f12 j) : i = j := by
  have := congrArg Fin.val h
  rwa [f12_val hi, f12_val hj] at this
theorem bigSep_cl (Φ : Cl → sProp 𝕄) : bigSep Finset.univ Φ = iprop(Φ .bar ∗ Φ .stS ∗ Φ .stR ∗ (bigSep (Finset.range 12) fun i => Φ (.yS (f12 i)))
    ∗ (bigSep (Finset.range 12) fun i => Φ (.yR (f12 i))) ∗ (bigSep (Finset.range 12) fun i => Φ (.xS (f12 i))) ∗ bigSep (Finset.range 12) fun i => Φ (.xR (f12 i))) := by
  have hi (f : Fin 12 → Cl) (hf : Function.Injective f) : bigSep ((Finset.range 12).image fun i => f (f12 i)) Φ = bigSep (Finset.range 12) fun i => Φ (f (f12 i)) :=
    bigSep_image_of_injOn (fun i hi j hj h => f12_inj (Finset.mem_range.mp hi) (Finset.mem_range.mp hj) (hf h)) Φ
  rw [univ_cl, bigSep_insert (by decide), bigSep_insert (by decide), bigSep_insert (by decide), bigSep_union (by decide), bigSep_union (by decide), bigSep_union (by decide),
    hi Cl.yS (fun a b h => Cl.yS.inj h), hi Cl.yR (fun a b h => Cl.yR.inj h), hi Cl.xS (fun a b h => Cl.xS.inj h), hi Cl.xR (fun a b h => Cl.xR.inj h)]
  rfl

/-! ## The result's buffer -/

theorem col_join (c : Dev nD) (b : Fin 16) (f : Vec F S512x32768 .f32) :
    (colP c b f : sProp 𝕄) ⊣⊢ iprop(slabP c (half c) b fullShare f ∗ slabP c (halfO c) b fullShare f) := by
  have h : ((c : Thread nD τ).loc main_v1 ↦[(slab (half c) b).view.set ∪ (slab (halfO c) b).view.set]{fullShare} f : sProp 𝕄)
      ⊣⊢ iprop(slabP c (half c) b fullShare f ∗ slabP c (halfO c) b fullShare f) := pointsTo_union (slab_disj c b)
  rw [col_halves c b] at h
  exact h

theorem out_cols (c : Dev nD) (f : Vec F S512x32768 .f32) :
    (buf c main_v1 f : sProp 𝕄) = iprop((bigSep (Finset.range 4) fun i => colP c (blk c i) f) ∗ bigSep (Finset.range 12) fun i => colP c (blk c (i + 4)) f) := by
  rw [← range_16 (fun i => colP c (blk c i) f)]
  have h : ((c : Thread nD τ).loc main_v1 ↦[(Finset.range 16).biUnion fun i => (col (blk c i)).view.set]{fullShare} f : sProp 𝕄)
      = bigSep (Finset.range 16) fun i => colP c (blk c i) f :=
    pointsTo_biUnion _ _ fun i hi j hj hne => col_disj fun e => hne (blk_inj c (Finset.mem_range.mp hi) (Finset.mem_range.mp hj) e)
  rw [col_union c] at h
  exact h

theorem col_open (c : Dev nD) (b : Fin 16) (f : Vec F S512x32768 .f32) :
    (colP c b f : sProp 𝕄) ⊢ iprop(slabX c (half c) b ∗ slabX c (halfO c) b) := by
  refine (col_join c b f).1.trans ?_
  unfold slabX
  iintro ⟨H1, H2⟩
  isplitl [H1]; · iexists f; iexact H1
  iexists f; iexact H2

theorem out_open (c : Dev nD) (f : Vec F S512x32768 .f32) :
    (buf c main_v1 f : sProp 𝕄) ⊢ iprop(((bigSep (Finset.range 4) fun i => slabX c (half c) (blk c i)) ∗ bigSep (Finset.range 4) fun i => slabX c (halfO c) (blk c i))
      ∗ (bigSep (Finset.range 12) fun i => slabX c (half c) (blk c (i + 4))) ∗ bigSep (Finset.range 12) fun i => slabX c (halfO c) (blk c (i + 4))) := by
  rw [out_cols, ← bigSep_sep', ← bigSep_sep']
  exact BI.sep_mono (bigSep_mono fun i _ => col_open c (blk c i) f) (bigSep_mono fun i _ => col_open c (blk c (i + 4)) f)

/-! ## The handshake -/

theorem pay_bar0 (c : Dev nD) : pay X W (nL c) .bar 0 = bigSep (Finset.range 12) fun i => slabX c (half c) (blk c (i + 4)) := by
  show bigSep (Finset.range 12) (fun i => slabX (nR (nL c)) (half (nL c)) (blk (nL c) i)) = _
  refine bigSep_congr fun i hi => ?_
  rw [← blk_nR (nL c) i (Finset.mem_range.mp hi), nR_nL, half_nL]
theorem pay_bar2 (c : Dev nD) : pay X W (nP c) .bar 2 = iprop((bigSep (Finset.range 12) fun i => slabX c (halfO c) (blk c (i + 4))) ∗ ∃ f, statP c (halfO c) f) := by
  show iprop((bigSep (Finset.range 12) fun i => slabX (nP (nP c)) (half (nP c)) (blk (nP c) (i + 4))) ∗ ∃ f, statP (nP (nP c)) (half (nP c)) f) = _
  rw [nP_nP, half_nP, bigSep_congr fun i _ => by rw [blk_nP c]]

theorem wp_sig (c n m : Dev nD) (hn : m = n) (d : Fin 3) (O : CellTallies nD τ sig Unit) {p : P F} {Q : PUnit → sProp 𝕄} :
    iprop(ctx X W K ∗ ow c (O + tallyAt (cell n .bar) () 1) ∗ dutyTok ER (cell n .bar) 0 d ∗ pay X W n .bar d)
      ⊢ iprop((ow c O -∗ WP c p Q) -∗ WP c (signal m p) Q) := by
  subst hn
  unfold ow signal
  iintro ⟨#HC, ⟨%Ws, HO⟩, T, Hp⟩ Hk
  iapply (Rounds.wp_signal 𝒱₀ ER (sched X W) (c : Thread nD τ) none (κ := K (m, .bar)) (d := d) (mem_duties X W m (k := .bar) (Finset.mem_univ d))
    ((amount_cell X W m .bar d).trans (by decide)) () O rfl) $$ [HO T Hp]
  · isplitr; · iapply (ctx_inv X W K m .bar) $$ HC
    isplitl [HO]; · iexact HO
    isplitl [T]; · iexact T
    isplitl [Hp]; · iapply (Entails.of_eq (show pay X W m .bar d = (sched X W).payload ((m : Thread nD τ), .reg barrier0) 0 d from (payload_cell X W m .bar d).symm)) $$ Hp
    iapply (ctx_reached X W K m .bar) $$ HC
  iintro HO
  iapply Hk
  iexists Ws; iexact HO

/-- The three signals and the wait for the three of the others. -/
theorem wp_handshake (c : Dev nD) {p : P F} {Q : PUnit → sProp 𝕄} :
    iprop(ctx X W K ∗ ow c (O₀ c)
        ∗ dutyTok ER (cell (nL c) .bar) 0 0 ∗ dutyTok ER (cell (nR c) .bar) 0 1 ∗ dutyTok ER (cell (nP c) .bar) 0 2 ∗ cr c .bar 3 ∗ at0 c .bar
        ∗ (bigSep (Finset.range 12) fun i => slabX c (half c) (blk c (i + 4))) ∗ (bigSep (Finset.range 12) fun i => slabX c (halfO c) (blk c (i + 4)))
        ∗ ∃ f, statP c (halfO c) f)
      ⊢ iprop(((ow c (Orem c 0 0) ∗ semVal (cell c .bar) 0 ∗ (bigSep (Finset.range 12) fun i => slabX (nR c) (half c) (blk c i))
            ∗ (bigSep (Finset.range 12) fun i => slabX (nP c) (half c) (blk c (i + 4))) ∗ ∃ f, statP (nP c) (half c) f) -∗ WP c p Q)
        -∗ WP c (signal (dL c) <| signal (dR c) <| signal (dP c) <| .op (.semWait barrier0 (3#32).toInt) fun _ => p) Q) := by
  unfold O₀ O₁ O₂
  iintro ⟨#HC, HO, T0, T1, T2, Hc, Ha, HsY, HsX, Hst⟩ Hk
  iapply (wp_sig X W K c (nL c) (dL c) (dL_eq c) 0) $$ [HO T0 HsY]
  · isplitr; · iexact HC
    isplitl [HO]; · iexact HO
    isplitl [T0]; · iexact T0
    iapply (Entails.of_eq (pay_bar0 X W c).symm) $$ HsY
  iintro HO
  iapply (wp_sig X W K c (nR c) (dR c) (dR_eq c) 1) $$ [HO T1]
  · isplitr; · iexact HC
    isplitl [HO]; · iexact HO
    isplitl [T1]; · iexact T1
    iapply (Entails.of_eq (show iprop(emp) = pay X W (nR c) .bar 1 from rfl)); iempintro
  iintro HO
  iapply (wp_sig X W K c (nP c) (dP c) (dP_eq c) 2) $$ [HO T2 HsX Hst]
  · isplitr; · iexact HC
    isplitl [HO]; · iexact HO
    isplitl [T2]; · iexact T2
    iapply (Entails.of_eq (pay_bar2 X W c).symm)
    isplitl [HsX]; · iexact HsX
    iexact Hst
  iintro HO
  iapply (wp_round X W K c .bar 3 (by decide) (w := .semWait barrier0 (3#32).toInt)
    (wpE_semWait_eq (k := 3) 𝒱₀ (c : Thread nD τ) none Set.univ) (O := Orem c 0 0) (p := fun _ => p)) $$ [Hc Ha HO]
  · isplitr; · iexact HC
    isplitl [Hc]; · iexact Hc
    isplitl [HO]; · iexact HO
    isplitr
    · iapply (mayWait c (cs .bar) 0 0 (by decide) (by decide))
      iapply (ctx_lev X W K) $$ HC
    iexact Ha
  iintro ⟨HO, Ha, Hp⟩
  imod (Rounds.cell_close ER (sched X W) (Set.mem_univ (K (c, .bar))) (fun h => h) (R := 0 + 1) (duties_later X W (cell c .bar))) $$ [Ha] with Hz
  · isplitr; · iapply (ctx_inv X W K c .bar) $$ HC
    iexact Ha
  ihave Hp := (Entails.of_eq ((rest_cell X W c .bar).symm.trans (rest_bar X W c))) $$ Hp
  icases Hp with ⟨H0, -, H2⟩
  ihave H2 := (Entails.of_eq (show pay X W c .bar 2 = iprop((bigSep (Finset.range 12) fun i => slabX (nP c) (half c) (blk c (i + 4))) ∗ ∃ f, statP (nP c) (half c) f) from rfl)) $$ H2
  icases H2 with ⟨H2, H3⟩
  iapply Hk
  isplitl [HO]; · iexact HO
  isplitl [Hz]; · iexact Hz
  isplitl [H0]
  · iapply (Entails.of_eq (show pay X W c .bar 0 = bigSep (Finset.range 12) fun i => slabX (nR c) (half c) (blk c i) from rfl)) $$ H0
  isplitl [H2]; · iexact H2
  iexact H3

end Cert.Softmax

end
-- ==== Proof.Body.lean ====
/-
# The body of the kernel

The pieces put together: from the buffers and the shared cells' tokens a device starts with, its whole program runs, and the
result's buffer holds `final`.
-/
module

public import proofs.«01_k».proof.Proof.Start

@[expose] public section

noncomputable section

namespace Cert.Softmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Dev nD → Vec F S512x1024 .f32) (W : Dev nD → Vec F S1024x8192 .f32)
variable (K : Dev nD × Cl → ℕ)

/-! ## The three loops of the ring -/

/-- What the loops leave: the own slabs, the arrived ones, the other rows' ones, and the units of the sends. -/
def ringR (c : Dev nD) : sProp 𝕄 :=
  iprop((bigSep (Finset.range 4) fun j => slabP c (half c) (blk c j) shO (logits X W c))
    ∗ (bigSep (Finset.range 12) fun j => slabP c (half c) (blk c (j + 4)) shR (logits X W c))
    ∗ (bigSep (Finset.Ico 8 12) fun j => slabP c (half c) (blk c (j + 4)) shY (logits X W c))
    ∗ (bigSep (Finset.range 4) fun j => slabP c (halfO c) (blk c j) fullShare (logits X W c))
    ∗ (bigSep (Finset.range 12) fun j => cr c (.yS (f12 j)) N)
    ∗ (bigSep (Finset.range 12) fun j => cr c (.xS (f12 j)) N)
    ∗ (bigSep (Finset.range 12) fun j => sv c (qYR (f12 j))))

set_option maxHeartbeats 1000000 in
theorem wp_rings (c : Dev nD) (k : St F → P F) {Q : PUnit → sProp 𝕄} :
    iprop(ctx X W K ∗ locR X W c ∗ ow c (Orem c 0 0)
        ∗ (bigSep (Finset.range 4) fun j => slabX c (half c) (blk c j)) ∗ (bigSep (Finset.range 4) fun j => slabX c (halfO c) (blk c j))
        ∗ (bigSep (Finset.range 12) fun j => ySR c j) ∗ (bigSep (Finset.range 12) fun j => xSR c j) ∗ (bigSep (Finset.range 12) fun j => awR c (.yR (f12 j)) N))
      ⊢ iprop(((locR X W c ∗ ow c (Orem c 12 12) ∗ ringR X W c) -∗ WP c (k (st X W c)) Q)
        -∗ WP c (loop (ownStage c) 4 0 () fun _ => loop (relayStage c) 8 0 st0 fun s => loop (lastStage c) 4 8 s k) Q) := by
  rw [range_ico (fun j => slabX c (half c) (blk c j)), range_ico (fun j => slabX c (halfO c) (blk c j)), range_ico (fun j => ySR c j), range_ico (fun j => xSR c j),
    range_ico (fun j => awR c (.yR (f12 j)) N)]
  iintro ⟨#HC, HL, HO, Hs, Ho, Hy, Hx, Ha⟩ Hk
  iapply (wp_loop c (A := Unit) (fun i _ => ownInv X W K c i) 4 (fun i hi a k => wp_ownStep X W K c hi a k) 4 0 () _ rfl) $$ [HL HO Hs Hy]
  · unfold ownInv
    isplitr; · iexact HC
    isplitl [HL]; · iexact HL
    isplitl [HO]; · iexact HO
    isplitr; · iempintro
    isplitl [Hs]; · iexact Hs
    isplitr; · iempintro
    iexact Hy
  iintro %a H
  unfold ownInv
  icases H with ⟨-, HL, HO, Hown, -, HcY, Hy⟩
  iapply (wp_loop c (fun i s => relayInv X W K c i s) 8 (fun i hi s k => wp_relayStep X W K c hi s k) 8 0 st0 _ rfl) $$ [HL HO Ho Hy Hx Ha HcY]
  · unfold relayInv othInv
    isplitr; · ipureintro; rfl
    isplitr; · iexact HC
    isplitl [HL]; · iexact HL
    isplitl [HO]; · iexact HO
    isplitr; · iempintro
    isplitl [Ho]
    · isplitr; · iempintro
      iexact Ho
    isplitl [HcY]; · iexact HcY
    isplitr; · iempintro
    isplitr; · iempintro
    isplitl [Ha]; · iexact Ha
    isplitl [Hy]; · iexact Hy
    iexact Hx
  iintro %s H
  unfold relayInv othInv
  icases H with ⟨%hs, -, HL, HO, Hgot, ⟨Hoth, -⟩, HcY, HcX, Hz, Ha, -, Hx⟩
  iapply (wp_loop c (fun i s => iprop(⌜8 ≤ i⌝ ∗ lastInv X W K c i s)) 12
    (fun i hi s k => by
      iintro ⟨%h8, H⟩ Hk
      iapply (wp_lastStep X W K c h8 hi s k) $$ H
      iintro %s' H
      ihave Hk := Hk $$ %s'
      iapply Hk
      isplitr; · ipureintro; omega
      iexact H) 4 8 s k rfl) $$ [HL HO Hown Hgot HcX Hz Ha Hx]
  · unfold lastInv
    isplitr; · ipureintro; exact le_refl 8
    isplitr; · ipureintro; exact hs
    isplitr; · iexact HC
    isplitl [HL]; · iexact HL
    isplitl [HO]; · iexact HO
    isplitl [Hown]; · iexact Hown
    isplitl [Hgot]; · iexact Hgot
    isplitr; · rw [ico_nil]; iempintro
    isplitl [HcX]; · iexact HcX
    isplitl [Hz]; · iexact Hz
    isplitl [Ha]; · iexact Ha
    iexact Hx
  iintro %s2 ⟨-, H⟩
  unfold lastInv
  icases H with ⟨%hs2, -, HL, HO, Hown, Hgot, HgY, HcX, Hz, -, -⟩
  subst hs2
  iapply Hk
  isplitl [HL]; · iexact HL
  isplitl [HO]; · iexact HO
  unfold ringR
  isplitl [Hown]; · iexact Hown
  isplitl [Hgot]; · iexact Hgot
  isplitl [HgY]; · iexact HgY
  isplitl [Hoth]; · iexact Hoth
  isplitl [HcY]; · iexact HcY
  isplitl [HcX]; · iexact HcX
  iexact Hz

/-! ## The normalised result -/

theorem own_col (c : Dev nD) (b : Fin 16) (f : Vec F S512x32768 .f32) :
    iprop((slabP c (half c) b shY f ∗ slabP c (half c) b shO f) ∗ slabP c (halfO c) b fullShare f) ⊢ (colP c b f : sProp 𝕄) :=
  (sep_mono_left (slab_split2 c (half c) b f).2).trans (col_join c b f).2
theorem got_col (c : Dev nD) (b : Fin 16) (f : Vec F S512x32768 .f32) :
    iprop((slabP c (half c) b shY f ∗ slabP c (half c) b shX f ∗ slabP c (half c) b shR f) ∗ slabP c (halfO c) b fullShare f) ⊢ (colP c b f : sProp 𝕄) :=
  (sep_mono_left (sep_mono_right (slab_split3 c (half c) b f).2)).trans (own_col c b f)

theorem aw_zip (c : Dev nD) (S : Finset ℕ) (f : ℕ → Cl) (A : ℕ) :
    iprop((bigSep S fun i => cr c (f i) A) ∗ bigSep S fun i => at0 c (f i)) ⊢ (bigSep S fun i => awR c (f i) A : sProp 𝕄) := by
  rw [← bigSep_sep']; exact bigSep_mono fun i _ => Entails.refl _

/-- The semaphores of the transfers at zero again. -/
def doneR (c : Dev nD) : sProp 𝕄 :=
  iprop((bigSep (Finset.range 12) fun i => sv c (qYS (f12 i))) ∗ (bigSep (Finset.range 12) fun i => sv c (qYR (f12 i)))
    ∗ (bigSep (Finset.range 12) fun i => sv c (qXS (f12 i))) ∗ (bigSep (Finset.range 12) fun i => sv c (qXR (f12 i))))

set_option maxHeartbeats 2000000 in
theorem wp_tail (c : Dev nD) (p : P F) {Q : PUnit → sProp 𝕄} :
    iprop(ctx X W K ∗ normR c ∗ ringR X W c ∗ ow c 0
        ∗ (bigSep (Finset.range 12) fun j => at0 c (.yS (f12 j))) ∗ (bigSep (Finset.range 12) fun j => at0 c (.xS (f12 j))) ∗ (bigSep (Finset.range 12) fun j => awR c (.xR (f12 j)) N))
      ⊢ iprop(((normR c ∗ buf c main_v1 (final X W c) ∗ doneR c ∗ ow c 0) -∗ WP c p Q)
        -∗ WP c (loop (fun j (_ : Unit) k => await (qYS (f12 j)) (oSrc c j) (oSrc_inb c j) (k ())) 4 0 () fun _ =>
          normLoop (offs X W c) (cOwn c) 2 <|
          loop (fun i (_ : Unit) k => await (qXR (f12 i)) (oGot c i) (oGot_inb c i) (k ())) 12 0 () fun _ =>
          loop (fun i (_ : Unit) k => await (qYS (f12 i)) (oSrc c i) (oSrc_inb c i) (k ())) 8 4 () fun _ =>
          loop (fun i (_ : Unit) k => await (qXS (f12 i)) (oGot c i) (oGot_inb c i) (k ())) 12 0 () fun _ =>
          normLoop (offs X W c) (cGot c) 10 p) Q) := by
  unfold ringR
  iintro ⟨#HC, Hn, ⟨Hown, Hgot, HgY, Hoth, HcY, HcX, HzYR⟩, HO, HaY, HaX, HxR⟩ Hk
  ihave HyS := (aw_zip c (Finset.range 12) (fun j => .yS (f12 j)) N) $$ [HcY HaY]
  · isplitl [HcY]; · iexact HcY
    iexact HaY
  ihave HxS := (aw_zip c (Finset.range 12) (fun j => .xS (f12 j)) N) $$ [HcX HaX]
  · isplitl [HcX]; · iexact HcX
    iexact HaX
  ihave HyS := (Entails.of_eq ((range_ico (fun i => awR c (.yS (f12 i)) N) 12).trans (ico_cat _ (show 0 ≤ 4 by omega) (show 4 ≤ 12 by omega)))) $$ HyS
  icases HyS with ⟨HyS, HyS'⟩
  ihave HxS := (Entails.of_eq (range_ico (fun i => awR c (.xS (f12 i)) N) 12)) $$ HxS
  ihave HxR := (Entails.of_eq (range_ico (fun i => awR c (.xR (f12 i)) N) 12)) $$ HxR
  -- the first four sends are done: the own columns are whole
  iapply (wp_drain X W K c (fun j => .yS (f12 j)) (fun j => qYS (f12 j)) (oSrc c) (oSrc_inb c) (fun _ => rfl) (fun j => amt_yS _) (fun _ => rfl) 0 4
    (fun i => slabP c (half c) (blk c i) shY (logits X W c)) (fun i hi => pay_yS X W c (by omega))) $$ [HyS HO]
  · isplitr; · iexact HC
    isplitl [HyS]; · iexact HyS
    iexact HO
  iintro ⟨Hs, HzS, HO⟩
  ihave Hcol := (show iprop(((bigSep (Finset.Ico 0 (0 + 4)) fun i => slabP c (half c) (blk c i) shY (logits X W c))
        ∗ bigSep (Finset.range 4) fun j => slabP c (half c) (blk c j) shO (logits X W c)) ∗ bigSep (Finset.range 4) fun j => slabP c (halfO c) (blk c j) fullShare (logits X W c))
      ⊢ (bigSep (Finset.range (2 + 2)) fun j => colP c (blk c j) (logits X W c) : sProp 𝕄) from by
        rw [← range_ico, ← bigSep_sep', ← bigSep_sep']; exact bigSep_mono fun i _ => own_col c (blk c i) (logits X W c)) $$ [Hs Hown Hoth]
  · isplitr [Hoth]
    · isplitl [Hs]; · iexact Hs
      iexact Hown
    iexact Hoth
  iapply (wp_normLoop X W c (fun j => blk c j) (cOwn c) 2 (fun i hi => cOwn_eq c hi)) $$ [Hn Hcol HO]
  · isplitl [Hn]; · iexact Hn
    isplitl [Hcol]; · iexact Hcol
    iexact HO
  iintro ⟨Hn, HcolO, HO⟩
  -- the others' half slabs, and the rest of the sends
  iapply (wp_drain X W K c (fun j => .xR (f12 j)) (fun j => qXR (f12 j)) (oGot c) (oGot_inb c) (fun _ => rfl) (fun j => amt_xR _) (fun _ => rfl) 0 12
    (fun i => slabP c (halfO c) (blk c (i + 4)) fullShare (logits X W c)) (fun i hi => pay_xR X W c (by omega))) $$ [HxR HO]
  · isplitr; · iexact HC
    isplitl [HxR]; · iexact HxR
    iexact HO
  iintro ⟨HsXR, HzXR, HO⟩
  iapply (wp_drain X W K c (fun j => .yS (f12 j)) (fun j => qYS (f12 j)) (oSrc c) (oSrc_inb c) (fun _ => rfl) (fun j => amt_yS _) (fun _ => rfl) 4 8
    (fun i => slabP c (half c) (blk c i) shY (logits X W c)) (fun i hi => pay_yS X W c (by omega))) $$ [HyS' HO]
  · isplitr; · iexact HC
    isplitl [HyS']; · iexact HyS'
    iexact HO
  iintro ⟨HsYS, HzS', HO⟩
  iapply (wp_drain X W K c (fun j => .xS (f12 j)) (fun j => qXS (f12 j)) (oGot c) (oGot_inb c) (fun _ => rfl) (fun j => amt_xS _) (fun _ => rfl) 0 12
    (fun i => slabP c (half c) (blk c (i + 4)) shX (logits X W c)) (fun i hi => pay_xS X W c (by omega))) $$ [HxS HO]
  · isplitr; · iexact HC
    isplitl [HxS]; · iexact HxS
    iexact HO
  iintro ⟨HsXS, HzXS, HO⟩
  ihave HsY := (show iprop((bigSep (Finset.Ico 4 (4 + 8)) fun i => slabP c (half c) (blk c i) shY (logits X W c))
        ∗ bigSep (Finset.Ico 8 12) fun j => slabP c (half c) (blk c (j + 4)) shY (logits X W c))
      ⊢ (bigSep (Finset.range 12) fun j => slabP c (half c) (blk c (j + 4)) shY (logits X W c) : sProp 𝕄) from by
        rw [range_12, range_ico _ 8]; exact sep_mono_left (Entails.of_eq (ico_shift (fun i => slabP c (half c) (blk c i) shY (logits X W c)) 0 8 4))) $$ [HsYS HgY]
  · isplitl [HsYS]; · iexact HsYS
    iexact HgY
  ihave Hcol := (show iprop(((bigSep (Finset.range 12) fun j => slabP c (half c) (blk c (j + 4)) shY (logits X W c))
        ∗ (bigSep (Finset.Ico 0 (0 + 12)) fun j => slabP c (half c) (blk c (j + 4)) shX (logits X W c)) ∗ bigSep (Finset.range 12) fun j => slabP c (half c) (blk c (j + 4)) shR (logits X W c))
        ∗ bigSep (Finset.Ico 0 (0 + 12)) fun j => slabP c (halfO c) (blk c (j + 4)) fullShare (logits X W c))
      ⊢ (bigSep (Finset.range (10 + 2)) fun j => colP c (blk c (j + 4)) (logits X W c) : sProp 𝕄) from by
        rw [← range_ico, ← range_ico, ← bigSep_sep', ← bigSep_sep', ← bigSep_sep']; exact bigSep_mono fun i _ => got_col c (blk c (i + 4)) (logits X W c)) $$ [HsY HsXS Hgot HsXR]
  · isplitr [HsXR]
    · isplitl [HsY]; · iexact HsY
      isplitl [HsXS]; · iexact HsXS
      iexact Hgot
    iexact HsXR
  iapply (wp_normLoop X W c (fun j => blk c (j + 4)) (cGot c) 10 (fun i hi => cGot_eq c hi)) $$ [Hn Hcol HO]
  · isplitl [Hn]; · iexact Hn
    isplitl [Hcol]; · iexact Hcol
    iexact HO
  iintro ⟨Hn, HcolG, HO⟩
  iapply Hk
  isplitl [Hn]; · iexact Hn
  isplitl [HcolO HcolG]
  · iapply (Entails.of_eq (out_cols c (final X W c)).symm)
    isplitl [HcolO]; · iexact HcolO
    iexact HcolG
  isplitr [HO]
  · unfold doneR
    isplitl [HzS HzS']
    · iapply (Entails.of_eq ((range_ico (fun i => sv c (qYS (f12 i))) 12).trans (ico_cat _ (show 0 ≤ 4 by omega) (show 4 ≤ 12 by omega))).symm)
      isplitl [HzS]; · iexact HzS
      iexact HzS'
    isplitl [HzYR]; · iexact HzYR
    isplitl [HzXS]; · iapply (Entails.of_eq (range_ico (fun i => sv c (qXS (f12 i))) 12).symm) $$ HzXS
    iapply (Entails.of_eq (range_ico (fun i => sv c (qXR (f12 i))) 12).symm) $$ HzXR
  iexact HO

/-! ## The whole -/

/-- The tokens a device pays with. -/
def payToks (c : Dev nD) : sProp 𝕄 :=
  iprop((dutyTok ER (cell (nL c) .bar) 0 0 ∗ dutyTok ER (cell (nR c) .bar) 0 1 ∗ dutyTok ER (cell (nP c) .bar) 0 2) ∗ tk c .stS ∗ tk (nP c) .stR
    ∗ (bigSep (Finset.range 12) fun i => tk c (.yS (f12 i))) ∗ (bigSep (Finset.range 12) fun i => tk (nR c) (.yR (f12 i)))
    ∗ (bigSep (Finset.range 12) fun i => tk c (.xS (f12 i))) ∗ (bigSep (Finset.range 12) fun i => tk (nP c) (.xR (f12 i))))
/-- The units the others will credit it. -/
def credR (c : Dev nD) : sProp 𝕄 :=
  iprop(cr c .bar 3 ∗ cr c .stR NS ∗ (bigSep (Finset.range 12) fun i => cr c (.yR (f12 i)) N) ∗ (bigSep (Finset.range 12) fun i => cr c (.xR (f12 i)) N))

/-- The semaphores of its own copies, at zero. -/
def ownSv (c : Dev nD) : sProp 𝕄 :=
  iprop(sv c qLoc ∗ sv c qW ∗ sv c (qIn false) ∗ sv c (qIn true) ∗ sv c (qOut false) ∗ sv c (qOut true))
def scratchR (c : Dev nD) : sProp 𝕄 :=
  iprop(bufX c cc0_scratch0 ∗ bufX c cc0_scratch1 ∗ bufX c cc0_scratch2 ∗ bufX c cc0_scratch3 ∗ bufX (F := F) c cc0_scratch4)

def preR (c : Dev nD) : sProp 𝕄 :=
  iprop(ctx X W K ∗ ow c (O₀ c) ∗ payToks c ∗ (bigSep Finset.univ fun k => at0 c k) ∗ credR c ∗ buf c main_arg1 (W c) ∗ bufX c main_v1 ∗ buf c cc0_stg0_0 (X c)
    ∗ scratchR c ∗ ownSv c)
def postR (c : Dev nD) : sProp 𝕄 :=
  iprop(ow c 0 ∗ buf c main_arg1 (W c) ∗ buf c main_v1 (final X W c) ∗ buf c cc0_stg0_0 (X c) ∗ scratchR c ∗ ownSv c
    ∗ bigSep Finset.univ fun k => semVal (cell c k) 0)

theorem wp_dev (c : Dev nD) (k : Dev nD → P F) {Q : PUnit → sProp 𝕄} : WP c (.op .deviceId k) Q = WP c (k c) Q := wp_deviceId ..

theorem wp_done (c : Dev nD) {Q : PUnit → sProp 𝕄} : Q ⟨⟩ ⊢ WP c (.ret ⟨⟩) Q := by
  unfold WP
  rw [wp_ret]
  iintro H
  imodintro
  iexact H

set_option maxHeartbeats 2000000 in
theorem wp_body (c : Dev nD) {Q : PUnit → sProp 𝕄} : preR X W K c ⊢ iprop((postR X W c -∗ Q ⟨⟩) -∗ WP c bodyC Q) := by
  rw [body_eq, wp_dev]
  unfold preR payToks credR scratchR ownSv
  rw [bigSep_cl]
  iintro ⟨#HC, HO, ⟨⟨Tb0, Tb1, Tb2⟩, TsS, TsR, TyS, TyR, TxS, TxR⟩, ⟨Ab, AsS, AsR, AyS, AyR, AxS, AxR⟩, ⟨Cb, CsR, CyR, CxR⟩, HW, ⟨%fo, Hout⟩, HX,
    ⟨H0, H1, H2, H3, ⟨%f4, H4⟩⟩, ⟨qL, qW', qi0, qi1, qo0, qo1⟩⟩ Hk
  unfold prog
  ihave Hout := (out_open c fo) $$ Hout
  icases Hout with ⟨⟨Hown, Hoth⟩, HgY, HgX⟩
  ihave H4 := (stat_join c f4).1 $$ H4
  icases H4 with ⟨Hst, HstO⟩
  iapply (wp_handshake X W K c) $$ [HO Tb0 Tb1 Tb2 Cb Ab HgY HgX HstO]
  · isplitr; · iexact HC
    isplitl [HO]; · iexact HO
    isplitl [Tb0]; · iexact Tb0
    isplitl [Tb1]; · iexact Tb1
    isplitl [Tb2]; · iexact Tb2
    isplitl [Cb]; · iexact Cb
    isplitl [Ab]; · iexact Ab
    isplitl [HgY]; · iexact HgY
    isplitl [HgX]; · iexact HgX
    iexists f4; iexact HstO
  iintro ⟨HO, zb, HnY, HnX, HstP⟩
  iapply (wp_rings X W K c) $$ [HW H2 HX H0 H1 H3 qL qW' HO Hown Hoth TyS TyR HnY TxS TxR HnX CyR AyR]
  · isplitr; · iexact HC
    isplitl [HW H2 HX H0 H1 H3 qL qW']
    · unfold locR
      isplitl [HW]; · iexact HW
      isplitl [H2]; · iexact H2
      isplitl [HX]; · iexact HX
      isplitl [H0]; · iexact H0
      isplitl [H1]; · iexact H1
      isplitl [H3]; · iexact H3
      isplitl [qL]; · iexact qL
      iexact qW'
    isplitl [HO]; · iexact HO
    isplitl [Hown]; · iexact Hown
    isplitl [Hoth]; · iexact Hoth
    isplitl [TyS TyR HnY]
    · unfold ySR
      iapply (show iprop((bigSep (Finset.range 12) fun i => tk c (.yS (f12 i))) ∗ (bigSep (Finset.range 12) fun i => tk (nR c) (.yR (f12 i))) ∗ bigSep (Finset.range 12) fun i => slabX (nR c) (half c) (blk c i))
        ⊢ (bigSep (Finset.range 12) fun i => iprop(tk c (.yS (f12 i)) ∗ tk (nR c) (.yR (f12 i)) ∗ slabX (nR c) (half c) (blk c i)) : sProp 𝕄) from by rw [bigSep_sep', bigSep_sep'])
      isplitl [TyS]; · iexact TyS
      isplitl [TyR]; · iexact TyR
      iexact HnY
    isplitl [TxS TxR HnX]
    · unfold xSR
      iapply (show iprop((bigSep (Finset.range 12) fun i => tk c (.xS (f12 i))) ∗ (bigSep (Finset.range 12) fun i => tk (nP c) (.xR (f12 i))) ∗ bigSep (Finset.range 12) fun i => slabX (nP c) (half c) (blk c (i + 4)))
        ⊢ (bigSep (Finset.range 12) fun i => iprop(tk c (.xS (f12 i)) ∗ tk (nP c) (.xR (f12 i)) ∗ slabX (nP c) (half c) (blk c (i + 4))) : sProp 𝕄) from by rw [bigSep_sep', bigSep_sep'])
      isplitl [TxS]; · iexact TxS
      isplitl [TxR]; · iexact TxR
      iexact HnX
    iapply (aw_zip c (Finset.range 12) (fun j => .yR (f12 j)) N)
    isplitl [CyR]; · iexact CyR
    iexact AyR
  iintro ⟨HL, HO, Hr⟩
  iapply (wp_putStats X W c f4 (plane0_eq c) (plane1_eq c)) $$ Hst
  iintro Hst
  iapply (wp_swapStats X W K c (dP c) (dP_eq c) (stat_eq c)) $$ [Hst HstP TsS TsR AsS AsR CsR HO]
  · isplitr; · iexact HC
    isplitl [Hst]; · iexact Hst
    isplitl [HstP]; · iexact HstP
    isplitl [TsS]; · iexact TsS
    isplitl [TsR]; · iexact TsR
    isplitl [AsS]; · iexact AsS
    isplitl [AsR CsR]
    · unfold awR
      isplitl [CsR]; · iexact CsR
      iexact AsR
    iexact HO
  iintro ⟨H4, zS, zR, HO⟩
  unfold locR
  icases HL with ⟨HW, H2, HX, H0, H1, H3, qL, qW'⟩
  iapply (wp_tail X W K c (.ret ⟨⟩)) $$ [H0 H1 qi0 qi1 qo0 qo1 Hr HO AyS AxS CxR AxR]
  · isplitr; · iexact HC
    isplitl [H0 H1 qi0 qi1 qo0 qo1]
    · unfold normR tileX tileP
      isplitl [H0]; · iexact H0
      isplitl [H1]; · iexact H1
      isplitl [qi0]; · iexact qi0
      isplitl [qi1]; · iexact qi1
      isplitl [qo0]; · iexact qo0
      iexact qo1
    isplitl [Hr]; · iexact Hr
    isplitl [HO]; · iexact HO
    isplitl [AyS]; · iexact AyS
    isplitl [AxS]; · iexact AxS
    iapply (aw_zip c (Finset.range 12) (fun j => .xR (f12 j)) N)
    isplitl [CxR]; · iexact CxR
    iexact AxR
  iintro ⟨Hn, Hout, Hd, HO⟩
  unfold normR tileX tileP doneR
  icases Hn with ⟨H0, H1, qi0, qi1, qo0, qo1⟩
  icases Hd with ⟨zyS, zyR, zxS, zxR⟩
  iapply (wp_done c)
  iapply Hk
  unfold postR scratchR ownSv
  rw [bigSep_cl]
  isplitl [HO]; · iexact HO
  isplitl [HW]; · iexact HW
  isplitl [Hout]; · iexact Hout
  isplitl [HX]; · iexact HX
  isplitl [H0 H1 H2 H3 H4]
  · isplitl [H0]; · iexact H0
    isplitl [H1]; · iexact H1
    isplitl [H2]; · iexact H2
    isplitl [H3]; · iexact H3
    iexists _; iexact H4
  isplitl [qL qW' qi0 qi1 qo0 qo1]
  · isplitl [qL]; · iexact qL
    isplitl [qW']; · iexact qW'
    isplitl [qi0]; · iexact qi0
    isplitl [qi1]; · iexact qi1
    isplitl [qo0]; · iexact qo0
    iexact qo1
  isplitl [zb]; · iexact zb
  isplitl [zS]; · iexact zS
  isplitl [zR]; · iexact zR
  isplitl [zyS]; · iexact zyS
  isplitl [zyR]; · iexact zyR
  isplitl [zxS]; · iexact zxS
  iexact zxR

end Cert.Softmax

end
-- ==== Proof.Ghost.lean ====
/-
# The shared cells set up

Before the kernels start, every device's semaphores at zero become the shared cells of `Protocol`, each device's tokens go to the
device that pays them, and what the devices owe one another becomes the credit each waits with.
-/
module

public import proofs.«01_k».proof.Proof.Body

@[expose] public section

noncomputable section

namespace Cert.Softmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Dev nD → Vec F S512x1024 .f32) (W : Dev nD → Vec F S1024x8192 .f32)

/-! ## The kernel's semaphores -/

/-- Its own copies' six, then the shared cells but the barrier. -/
def osem : Fin 6 ⊕ {k : Cl // k ≠ .bar} → SemLoc sig
  | .inl 0 => .dma qLoc
  | .inl 1 => .dma qW
  | .inl 2 => .dma (qIn false)
  | .inl 3 => .dma (qIn true)
  | .inl 4 => .dma (qOut false)
  | .inl 5 => .dma (qOut true)
  | .inr k => cs k.1

set_option maxRecDepth 16384 in
theorem ownSemFacts : Pipeline.OwnSemFacts cfg0.spec osem where
  isScoped := by decide
  inj := by
    rintro (i | k) (j | l) h
    · revert i j; decide
    · exact absurd ((dec_cs l.1).symm.trans (congrArg dec h).symm) ((by decide : ∀ (i : Fin 6) (l : Cl), ¬ some l = dec (osem (.inl i))) i l.1)
    · exact absurd ((dec_cs k.1).symm.trans (congrArg dec h)) ((by decide : ∀ (j : Fin 6) (k : Cl), ¬ some k = dec (osem (.inl j))) j k.1)
    · exact congrArg Sum.inr (Subtype.ext (cs_inj h))
  disj := by decide

abbrev ownZ (c : Dev nD) : sProp 𝕄 := Pipeline.ownSems0 (Ix := Unit) (Name := ℕ) (U := UU) (Lvl := ℕ) (Val := Elt F) (τ := τ) osem c

theorem unscoped_bar (c : Dev nD) : (unscopedSems0 c : sProp 𝕄) = semVal (cell c .bar) 0 := by
  unfold unscopedSems0; rw [bigSep_eq_bigSepL_of_eq [SemLoc.reg barrier0] (by decide) (by decide)]; rfl

theorem sems_split (c : Dev nD) : iprop(ownZ c ∗ unscopedSems0 c) = iprop(ownSv c ∗ bigSep Finset.univ fun k => (semVal (cell c k) 0 : sProp 𝕄)) := by
  rw [unscoped_bar]
  have h6 : (bigSep Finset.univ fun i : Fin 6 => (semVal ((c : Thread nD τ), osem (.inl i)) 0 : sProp 𝕄)) = ownSv c :=
    bigSep_univ_eq_bigSepL [(0 : Fin 6), 1, 2, 3, 4, 5] (by decide) (by decide) _
  have hz : (ownZ c : sProp 𝕄) = iprop((bigSep Finset.univ fun i : Fin 6 => semVal ((c : Thread nD τ), osem (.inl i)) 0)
      ∗ bigSep Finset.univ fun k : {k : Cl // k ≠ .bar} => semVal (cell c k.1) 0) := BI.bigSep_univ_sum _
  rw [hz, h6, bigSep_univ_at (fun k => (semVal (cell c k) 0 : sProp 𝕄)) .bar, ← BI.bigSep_subtype_ne Cl.bar (fun k => (semVal (cell c k) 0 : sProp 𝕄))]
  refine BI.Entails.antisymm (show _ ⊢ (_ : sProp 𝕄) from ?_) (show _ ⊢ (_ : sProp 𝕄) from ?_)
  · iintro ⟨⟨Ho, Hc⟩, Hb⟩
    isplitl [Ho]; · iexact Ho
    isplitl [Hb]; · iexact Hb
    iexact Hc
  · iintro ⟨Ho, Hb, Hc⟩
    isplitr [Hb]
    · isplitl [Ho]; · iexact Ho
      iexact Hc
    iexact Hb

/-! ## What is minted -/

def cellE : Dev nD × Cl ↪ GSem nD τ sig := ⟨fun p => cell p.1 p.2, fun p q h => by
  obtain ⟨h1, h2⟩ := cell_inj h; exact Prod.ext h1 h2⟩
def allCells : Finset (GSem nD τ sig) := Finset.univ.map cellE

/-- A device's tokens: the barrier's second and third, and the first of every cell. -/
def tokD : Fin 2 ⊕ Cl → Cl × Fin 3
  | .inl 0 => (.bar, 1)
  | .inl 1 => (.bar, 2)
  | .inr k => (k, 0)
theorem tokD_inj : Function.Injective tokD := by
  rintro (j | k) (j' | k') h
  · revert j j'; decide
  · exact absurd (congrArg Prod.snd h) (show ¬ (tokD (.inl j)).2 = 0 by clear h; revert j; decide)
  · exact absurd (congrArg Prod.snd h).symm (show ¬ (tokD (.inl j')).2 = 0 by clear h; revert j'; decide)
  · exact congrArg Sum.inr (congrArg Prod.fst h)
def tokOf (p : Dev nD × (Fin 2 ⊕ Cl)) : GSem nD τ sig × ℕ × Fin 3 := (cell p.1 (tokD p.2).1, 0, (tokD p.2).2)
theorem tokOf_inj : Function.Injective tokOf := by
  rintro ⟨c, j⟩ ⟨c', j'⟩ h
  obtain ⟨h1, h2⟩ := cell_inj (congrArg Prod.fst h)
  exact Prod.ext h1 (tokD_inj (Prod.ext h2 (congrArg (fun x => x.2.2) h)))
def allToks : Finset (GSem nD τ sig × ℕ × Fin 3) := Finset.univ.map ⟨tokOf, tokOf_inj⟩

def u₀ : UU := (initOf (Pipeline.cells cfgs cellOf_inj) (Pipeline.launchToks cfgs cellOf_inj), (initOf allCells allToks, 1))

def toks (c : Dev nD) : sProp 𝕄 :=
  iprop((dutyTok ER (cell c .bar) 0 1 ∗ dutyTok ER (cell c .bar) 0 2) ∗ bigSep Finset.univ fun k => tk c k)

/-- What a device is dealt before the semaphores are shared, -/
def G (c : Dev nD) : sProp 𝕄 :=
  iprop((bigSep Finset.univ fun k => roundState ER (sched X W) (cell c k) 0)
    ∗ ((bigSep Finset.univ fun k => at0 c k) ∗ bigSep Finset.univ fun k => reached ER (cell c k) 0) ∗ toks c)
/-- and after. -/
def G' (c : Dev nD) : sProp 𝕄 :=
  iprop((∃ K, recs X W K) ∗ ((bigSep Finset.univ fun k => at0 c k) ∗ payToks c) ∗ ownSv c)

theorem fund_cells : BI.own (ER (initOf allCells allToks)) ⊢ (|==> bigSep Finset.univ (G X W) : sProp 𝕄) := by
  have hX (Φ : GSem nD τ sig → sProp 𝕄) : bigSep allCells Φ = bigSep Finset.univ fun c : Dev nD => bigSep Finset.univ fun k : Cl => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by
      unfold toks
      rw [← show _ = iprop(dutyTok ER (cell c .bar) 0 1 ∗ dutyTok ER (cell c .bar) 0 2) from
        bigSep_univ_eq_bigSepL [(0 : Fin 2), 1] (by decide) (by decide) fun j => (dutyTok ER (cell c (tokD (.inl j)).1) 0 (tokD (.inl j)).2 : sProp 𝕄)]
      exact BI.bigSep_univ_sum _
  iintro HX
  imod (Rounds.fund ER (sched X W) allCells allToks) $$ HX with ⟨Hst, Hr, Hat, Htok⟩
  imodintro
  ihave Hst := (Entails.of_eq (hX fun g => roundState ER (sched X W) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores become shared cells -/

theorem core_alloc (c : Dev nD) :
    iprop(ownZ c ∗ unscopedSems0 c ∗ G X W c)
      ⊢ |={Set.univ}=> iprop((bigSep Finset.univ fun k => iprop(∃ κ : ℕ, cellInv ER (sched X W) κ (cell c k)))
          ∗ (bigSep Finset.univ fun k => (reached ER (cell c k) 0 : sProp 𝕄))
          ∗ ((bigSep Finset.univ fun k => at0 c k) ∗ toks c) ∗ ownSv c) := by
  unfold G
  iintro ⟨Hos, Hus, Hst, ⟨Hat, Hre⟩, Htok⟩
  ihave Hv := (Entails.of_eq (sems_split (F := F) c)) $$ [Hos Hus]
  · isplitl [Hos] <;> iassumption
  icases Hv with ⟨Ho, Hv⟩
  imod (show iprop((bigSep Finset.univ fun k : Cl => semVal (cell c k) 0) ∗ bigSep Finset.univ fun k => roundState ER (sched X W) (cell c k) 0)
      ⊢ (|={Set.univ}=> bigSep Finset.univ fun k => iprop(∃ κ : ℕ, cellInv ER (sched X W) κ (cell c k)) : sProp 𝕄) from by
        rw [← bigSep_sep']
        exact (bigSep_mono fun k _ => (Rounds.body_intro ER (sched X W) (cell c k)).trans inv_alloc).trans (bigSep_fupd _ _)) $$ [Hv Hst] with Hinv
  · isplitl [Hv] <;> iassumption
  imodintro
  isplitl [Hinv]; · iexact Hinv
  isplitl [Hre]; · iexact Hre
  isplitr [Ho]
  · isplitl [Hat]; · iexact Hat
    iexact Htok
  iexact Ho

/-- The ring one step, and the pairing, as permutations of the devices. -/
def eR : Dev nD ≃ Dev nD := ⟨nR, nL, nL_nR, nR_nL⟩
def eP : Dev nD ≃ Dev nD := ⟨nP, nP, nP_nP, nP_nP⟩

theorem move (e : Dev nD ≃ Dev nD) {I : Type} (s : Finset I) (Φ : Dev nD → I → sProp 𝕄) :
    (bigSep Finset.univ fun c => bigSep s fun i => Φ c i) = bigSep Finset.univ fun c => bigSep s fun i => Φ (e c) i :=
  bigSep_univ_equiv e fun c => bigSep s fun i => Φ c i

/-- Every token goes to the device that pays it. -/
theorem toks_around : (bigSep Finset.univ fun c : Dev nD => (toks c : sProp 𝕄)) ⊢ bigSep Finset.univ fun c : Dev nD => payToks c := by
  unfold toks payToks
  simp only [bigSep_cl, bigSep_sep']
  rw [bigSep_univ_equiv eR.symm (fun c : Dev nD => (dutyTok ER (cell c .bar) 0 0 : sProp 𝕄)),
    bigSep_univ_equiv eR (fun c : Dev nD => (dutyTok ER (cell c .bar) 0 1 : sProp 𝕄)),
    bigSep_univ_equiv eP (fun c : Dev nD => (dutyTok ER (cell c .bar) 0 2 : sProp 𝕄)),
    bigSep_univ_equiv eP (fun c : Dev nD => (dutyTok ER (cell c .stR) 0 0 : sProp 𝕄)),
    move eR (Finset.range 12) (fun c i => (dutyTok ER (cell c (.yR (f12 i))) 0 0 : sProp 𝕄)),
    move eP (Finset.range 12) (fun c i => (dutyTok ER (cell c (.xR (f12 i))) 0 0 : sProp 𝕄))]
  iintro ⟨⟨B1, B2⟩, B0, S, R, yS, yR, xS, xR⟩
  isplitl [B0 B1 B2]
  · isplitl [B0]; · iexact B0
    isplitl [B1]; · iexact B1
    iexact B2
  isplitl [S]; · iexact S
  isplitl [R]; · iexact R
  isplitl [yS]; · iexact yS
  isplitl [yR]; · iexact yR
  isplitl [xS]; · iexact xS
  iexact xR

/-- What is known to all goes to each of a family. -/
theorem deal {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched X W) κ (cell c k)))
          ∗ (bigSep Finset.univ fun k => (reached ER (cell c k) 0 : sProp 𝕄))
          ∗ ((bigSep Finset.univ fun k => at0 c k) ∗ toks c) ∗ ownSv c) : sProp 𝕄)
      ⊢ bigSep Finset.univ (G' X W) := by
  rw [bigSep_sep', bigSep_sep', bigSep_sep', bigSep_sep', ← bigSep_univ_prod (fun p : Dev nD × Cl => iprop(∃ κ : ℕ, cellInv ER (sched X W) κ (cell p.1 p.2))),
    ← bigSep_univ_prod (fun p : Dev nD × Cl => (reached ER (cell p.1 p.2) 0 : sProp 𝕄))]
  iintro ⟨HI, #HR, ⟨Hat, Htok⟩, Ho⟩
  ihave HK := (BI.bigSep_exists_pi Finset.univ (fun (p : Dev nD × Cl) (κ : ℕ) => (cellInv ER (sched X W) κ (cell p.1 p.2) : sProp 𝕄))) $$ HI
  icases HK with ⟨%K, #HI⟩
  ihave Htk := (toks_around (F := F)) $$ Htok
  iapply (deal (R := recs X W K) (Φ := fun c => iprop(((bigSep Finset.univ fun k => at0 c k) ∗ payToks c) ∗ ownSv c))
    fun c _ => show iprop(recs X W K ∗ _) ⊢ G' X W c from by
      unfold G'
      iintro ⟨Hr, Ha, Ho⟩
      isplitl [Hr]; · iexists K; iexact Hr
      isplitl [Ha]; · iexact Ha
      iexact Ho)
  isplitr
  · unfold recs; isplitl; · iexact HI
    iexact HR
  rw [bigSep_sep', bigSep_sep']
  isplitl [Hat Htk]
  · isplitl [Hat]; · iexact Hat
    iexact Htk
  iexact Ho

theorem glob : (bigSep Finset.univ fun c => iprop(ownZ c ∗ unscopedSems0 c ∗ G X W c) : sProp 𝕄) ⊢ |={Set.univ}=> bigSep Finset.univ (G' X W) :=
  ((bigSep_mono fun c _ => core_alloc X W c).trans (bigSep_fupd _ _)).trans (BI.fupd_mono (regroup X W))

/-! ## What is owed is what is waited for -/

theorem cred_at (e : Dev nD ≃ Dev nD) (k : Cl) (n : ℕ) (c : Dev nD) :
    (Pipeline.launchCred (fun d => tallyAt (cell (e d) k) () n) c : sProp 𝕄) ⊢ cr c k n :=
  Pipeline.launchCred_tallyAt (cs k) e e.symm e.apply_symm_apply e.symm_apply_apply () n c

theorem creds (c : Dev nD) : (Pipeline.launchCred O₀ c : sProp 𝕄) ⊢ credR c := by
  have h : (O₀ : Dev nD → CellTallies nD τ sig Unit) = fun d =>
      ((((tallyAt (cell (eP d) .stR) () NS + ∑ i ∈ Finset.range 12, tallyAt (cell (eR d) (.yR (f12 i))) () N)
        + ∑ i ∈ Finset.range 12, tallyAt (cell (eP d) (.xR (f12 i))) () N) + tallyAt (cell (eP d) .bar) () 1)
        + tallyAt (cell (eR d) .bar) () 1) + tallyAt (cell (eR.symm d) .bar) () 1 := by
    funext d; unfold O₀ O₁ O₂ Orem; rw [← Finset.range_eq_Ico]; rfl
  rw [h, Pipeline.launchCred_add, Pipeline.launchCred_add, Pipeline.launchCred_add, Pipeline.launchCred_add, Pipeline.launchCred_add,
    Pipeline.launchCred_sum, Pipeline.launchCred_sum]
  unfold credR
  iintro ⟨⟨⟨⟨⟨Hs, Hy⟩, Hx⟩, B0⟩, B1⟩, B2⟩
  ihave B0 := (cred_at eP .bar 1 c) $$ B0
  ihave B1 := (cred_at eR .bar 1 c) $$ B1
  ihave B2 := (cred_at eR.symm .bar 1 c) $$ B2
  isplitl [B0 B1 B2]
  · iapply (show iprop(cr c .bar 1 ∗ cr c .bar 1 ∗ cr c .bar 1) ⊢ (cr c .bar 3 : sProp 𝕄) from by
      unfold cr
      rw [show (tallyAt (cell c .bar) () 3 : CellTallies nD τ sig Unit) = tallyAt (cell c .bar) () 1 + (tallyAt (cell c .bar) () 1 + tallyAt (cell c .bar) () 1) from by
        rw [show (3 : ℕ) = 1 + (1 + 1) from rfl, tallyAt_add, tallyAt_add]]
      iintro ⟨A, B, C⟩
      iapply (cred_add _ _).2
      isplitl [A]; · iexact A
      iapply (cred_add _ _).2
      isplitl [B]; · iexact B
      iexact C) $$ [B0 B1 B2]
    isplitl [B0]; · iexact B0
    isplitl [B1]; · iexact B1
    iexact B2
  isplitl [Hs]; · iapply (cred_at eP .stR NS c) $$ Hs
  isplitl [Hy]
  · iapply (show (bigSep (Finset.range 12) fun i => (Pipeline.launchCred (fun d => tallyAt (cell (eR d) (.yR (f12 i))) () N) c : sProp 𝕄)) ⊢ _ from
      bigSep_mono fun i _ => cred_at eR (.yR (f12 i)) N c) $$ Hy
  · iapply (show (bigSep (Finset.range 12) fun i => (Pipeline.launchCred (fun d => tallyAt (cell (eP d) (.xR (f12 i))) () N) c : sProp 𝕄)) ⊢ _ from
      bigSep_mono fun i _ => cred_at eP (.xR (f12 i)) N c) $$ Hx

end Cert.Softmax

end
-- ==== Proof.Launch.lean ====
/-
# The run of the whole program

From any memory with every counter at zero, every execution terminates, the arguments are unchanged, every device's result is
`final`, and every counter is back at zero.
-/
module

public import proofs.«01_k».proof.Proof.Ghost
public import proofs.«01_k».proof.Proof.Gen.KernelIdeal.Points
public import Idealize.ShloMosaic.Lib.Pipeline.CollectiveSegs

@[expose] public section

noncomputable section

namespace Cert.Softmax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The two arguments on device `c`. -/
def argX (c : Dev nD) : Vec F S512x1024 .f32 := m ((c : Thread nD τ).loc main_arg0)
def argW (c : Dev nD) : Vec F S1024x8192 .f32 := m ((c : Thread nD τ).loc main_arg1)

/-- The first argument as staged: the whole of it. -/
def xstg (c : Dev nD) : (cc0_stg0_0 : Ref sig .tc).ty.Contents (Elt F) :=
  (win0_0.blk (0 : Fin 1)).view.read (Elt F) (m ((c : Thread nD τ).loc main_arg0))
theorem xstg_eq (c : Dev nD) : xstg m c = argX m c := by
  funext i
  unfold xstg argX
  exact congrArg (m ((c : Thread nD τ).loc main_arg0)) (funext fun a => Fin.ext (by fin_cases a <;> simp [win0_0] <;> rfl))

/-! ## The proof data of the one region -/

def atStart (c : Dev nD) : sProp 𝕄 :=
  iprop(levAts L lv ∗ credR c ∗ buf c main_arg1 (argW m c) ∗ bufX c main_v1 ∗ G' (argX m) (argW m) c)
def Φ₀ (c : Dev nD) : sProp 𝕄 := iprop(atStart m c ∗ scratchR c)
def atEnd (c : Dev nD) : sProp 𝕄 :=
  iprop(buf c main_arg1 (argW m c) ∗ buf c main_v1 (final (argX m) (argW m) c))
def Φ₁ (c : Dev nD) : sProp 𝕄 :=
  iprop(atEnd m c ∗ scratchR c ∗ ownSv c ∗ bigSep Finset.univ fun k => semVal (cell c k) 0)

def dats (_ : Fin 1) (c : Dev nD) : Dat τ (Elt F) Unit ℕ UU ℕ cfg0 c where
  A w := m ((cfg0.win w).arr.view.loc (c : Thread nD τ))
  after w _ := match w with
    | ⟨0, _⟩ => xstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_all (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

abbrev stg (c : Dev nD) (f : (cc0_stg0_0 : Ref sig .tc).ty.Contents (Elt F)) : sProp 𝕄 :=
  iprop(∃ g : Buf (Elt F) (((c : Dev nD) : Thread nD τ).loc cc0_stg0_0), ⌜g = f⌝ ∗ (((c : Thread nD τ).loc cc0_stg0_0) ↦{fullShare} g))

def bodyPre (c : Dev nD) : sProp 𝕄 :=
  iprop(Φ₀ m c ∗ (dats m 0 c).owesAt () t0_0.castSucc ∗ (∃ d, stg c ((dats m 0 c).before (0 : Fin 1) t0_0 d)))
def bodyPost (c : Dev nD) : sProp 𝕄 :=
  iprop(Φ₁ m c ∗ (dats m 0 c).owesAt () t0_0.succ ∗ stg c (xstg m c))

theorem sound (c : Dev nD) : bodyPre m c ⊢ WP c bodyC fun _ => bodyPost m c := by
  unfold bodyPre Φ₀ atStart G' Dat.owesAt Pipeline.owesWithin
  iintro ⟨⟨⟨#Hlev, Hcr, HW, HO, ⟨%K, #Hrec⟩, ⟨Hat, Htok⟩, Hown⟩, Hscr⟩, ⟨%Ws, %hWs, Hw⟩, ⟨%d, %g, %hg, Hx⟩⟩
  have hgx : g = argX m c := by
    rw [hg, ← xstg_eq m c]
    unfold Dat.before
    rw [if_pos (fetch0_0 t0_0)]
    rfl
  subst hgx
  iapply (wp_body (argX m) (argW m) K c) $$ [Hcr HW HO Hat Htok Hown Hscr Hw Hx]
  · unfold preR ctx ow
    isplitr
    · isplitl; · iexact Hrec
      iexact Hlev
    isplitl [Hw]; · iexists Ws; iexact Hw
    isplitl [Htok]; · iexact Htok
    isplitl [Hat]; · iexact Hat
    isplitl [Hcr]; · iexact Hcr
    isplitl [HW]; · iexact HW
    isplitl [HO]; · iexact HO
    isplitl [Hx]; · iexact Hx
    isplitl [Hscr]; · iexact Hscr
    iexact Hown
  unfold postR ow
  iintro ⟨⟨%Ws', Hw⟩, HW, HO, Hx, Hscr, Hown, Hz⟩
  unfold bodyPost Φ₁ atEnd Dat.owesAt Pipeline.owesWithin
  isplitl [HW HO Hscr Hown Hz]
  · isplitl [HW HO]
    · isplitl [HW]; · iexact HW
      iexact HO
    isplitl [Hscr]; · iexact Hscr
    isplitl [Hown]; · iexact Hown
    iexact Hz
  isplitl [Hw]
  · iexists Ws'
    isplitr
    · ipureintro; exact fun _ _ => Or.inl trivial
    iexact Hw
  iexists (argX m c)
  isplitr
  · ipureintro; exact (xstg_eq m c).symm
  iexact Hx

set_option maxRecDepth 65536 in
theorem body_obligation (c : Dev nD) : BodyObligation (dats (F := F) m 0 c) (defs₀ (F := F)) 𝒱₀ () Set.univ := fun t => by
  rw [show t = t0_0 from fin_N0 t]
  rw [show ∀ Φ : Fin cfg0.W → sProp 𝕄, bigSep Finset.univ Φ = Φ (0 : Fin 1) from fun Φ => bigSep_W0 Φ,
    show ∀ Φ : Fin cfg0.W → sProp 𝕄, bigSep Finset.univ Φ = Φ (0 : Fin 1) from fun Φ => bigSep_W0 Φ]
  simp only [owns_all]
  exact sound m c

/-! ## The ends of the region -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argX m) (argW m) c)
      ⊢ |={Set.univ}=> iprop(atStart m c ∗ emp) := by
  rw [Pipeline.unscopedRestP_none, unscopedRest0_eq]
  iintro ⟨⟨HW, HO⟩, Hlev, Hcr, -, HG⟩
  ihave Hc := (creds (F := F) c) $$ Hcr
  imodintro
  unfold atStart
  isplitl
  · isplitl [Hlev]; · iexact Hlev
    isplitl [Hc]; · iexact Hc
    isplitl [HW]; · iexact HW
    isplitl [HO]; · iexists (m ((c : Thread nD τ).loc main_v1)); iexact HO
    iexact HG
  · iempintro

theorem enter (c : Dev nD) :
    iprop(atStart m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratchR
  iintro ⟨Hs, -, Hr⟩
  isplitl [Hs]; · iexact Hs
  iexact Hr

theorem leave (c : Dev nD) :
    (dats m 0 c).Φ (Fin.last cfg0.N) ⊢ iprop((unscopedSems0 c ∗ atEnd m c) ∗ ownZ c ∗ Pipeline.scopedRest cfg0.spec c) := by
  rw [show (dats m 0 c).Φ (Fin.last cfg0.N) = Φ₁ m c from rfl, scopedRest0_eq]
  unfold Φ₁ scratchR
  iintro ⟨He, Hs, Hown, Hz⟩
  ihave H := (Entails.of_eq (sems_split (F := F) c).symm) $$ [Hown Hz]
  · isplitl [Hown]; · iexact Hown
    iexact Hz
  icases H with ⟨Ho, Hu⟩
  isplitl [Hu He]
  · isplitl [Hu]; · iexact Hu
    iexact He
  isplitl [Ho]; · iexact Ho
  iexact Hs

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait₀ c _ (by fin_cases w <;> fin_cases s <;> decide)
    · show _ ⊢ MayWait (c : Thread nD τ) _ () 0
      rw [MayWait_zero]; iintro -; iempintro

theorem share_eq (c : Dev nD) (w : Fin cfg0.W) : (dats m 0 c).share w = fullShare := by unfold Dat.share; split <;> rfl
theorem L_of_ne (g : GSem nD τ sig) (h : g.1.2 ≠ .tc) : L g = ∅ := if_neg h

/-- What a final state has on device `c` besides the staged argument. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = argW m c ∧ s.mem ((c : Thread nD τ).loc main_v1) = final (argX m) (argW m) c

theorem read_end (c : Dev nD) (s' : Phys nD τ sig (Elt F)) :
    iprop((unscopedSems0 c ∗ atEnd m c) ∗ emp ∗ SI s') ⊢ (|={Set.univ}=> iprop(⌜QY m c s'.mem⌝ ∗ SI s') : sProp 𝕄) := by
  unfold atEnd
  iintro ⟨⟨Hu, HW, HO⟩, -, HSI⟩
  icombine HSI HW gives %hW
  icombine HSI HO gives %hO
  imod (Pipeline.unscopedSems0_read (X := unscopedSems0 c) (c := c) fupd_intro s') $$ [Hu HSI] with ⟨%hu, HSI⟩
  · isplitl [Hu] <;> iassumption
  imodintro
  isplitr
  · ipureintro
    exact ⟨hu, funext fun i => hW i (Finset.mem_univ i), funext fun i => hO i (Finset.mem_univ i)⟩
  iexact HSI

/-! ## The run -/

/-- What every final state has. -/
def Done (r : PUnit × MemSt nD τ sig (Elt F)) : Prop :=
  (∀ c : Dev nD, r.2.mem ((c : Thread nD τ).loc main_v1) = final (argX m) (argW m) c
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

set_option maxRecDepth 65536 in
/-- From any memory with zero counters, for any float values, every execution on the eight devices terminates, and ends so. -/
theorem run_main : θ_run defs (onTc (τ := τ) (main (F := F))) ⟨m, fun _ => 0, ρ⟩ (Done m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (argX m) (argW m)) (G' := G' (argX m) (argW m)) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (fund_cells (argX m) (argW m)) $$ HX with HG
      imodintro
      isplitl [HP] <;> iassumption)
    (hglob := glob (argX m) (argW m))
    (hA := fun _ _ => rfl) (hpf := fun _ k => k.elim0)
    (X := atStart m) (Y := fun c => iprop(unscopedSems0 c ∗ atEnd m c)) (Z := fun _ => iprop(emp))
    (hX := start_intro m ρ) (hin := enter m) (hout := leave m)
    (QY := QY m) (hY := read_end m)
    (hQ := fun s h hs => ⟨fun c => ⟨(h c).2.2.2.2, ((h c).1 (0 : Fin 1)).trans ((dats (F := F) m 0 c).arrAt_in (0 : Fin 1) rfl _), (h c).2.2.2.1⟩,
      sem_eq_zero hs fun c => (h c).2.2.1⟩)

end Cert.Softmax

end
-- ==== Proof.Frames.lean ====
/-
# The frames

The kernel's own text differs from its reading over the extended reals in one constant only, so the run of `Launch` is the run of
both.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Softmax

open Idealize.ShloMosaic Idealize.SL.Sem

/-- At floats of bits a named constant is the constant printed. -/
instance namedBits : Named Bits where
  named _ _ {_} b := Scalar.ofBits _ b

set_option maxRecDepth 65536 in
theorem body_bits : @Cert.KernelIdeal.cc0_body Bits _ _ _ = @Cert.Kernel.cc0_body Bits _ _ := rfl
theorem defs_body_bits : Cert.KernelIdeal.defs₀ (F := Bits) = Cert.Kernel.defs₀ (F := Bits) := by
  unfold Cert.KernelIdeal.defs₀ Cert.Kernel.defs₀
  refine congrArg (Defs.onTc (nD := Cert.Kernel.nD) (τ := Cert.Kernel.τ) (sig := Cert.Kernel.sig) (Val := Elt Bits) (Λ := Cert.Kernel.Λ₀)) ?_
  funext l x
  match l, x with
  | 0, (t, s) =>
    show Cert.KernelIdeal.cc0_body (F := Bits) .. = Cert.Kernel.cc0_body (F := Bits) ..
    rw [body_bits]
theorem defs_bits : Cert.KernelIdeal.defs (F := Bits) = Cert.Kernel.defs (F := Bits) := by
  unfold Cert.KernelIdeal.defs Cert.Kernel.defs
  rw [defs_body_bits]
  rfl
theorem main_bits : Cert.KernelIdeal.main (F := Bits) = Cert.Kernel.main (F := Bits) := rfl

theorem frame_kernel : Cert.quiescent_Kernel := fun m ρ _ => by
  rw [← defs_bits, ← main_bits]
  exact (θ_run (Cert.KernelIdeal.defs (F := Bits)) _ _).mono (fun _ h => ⟨fun c => (h.1 c).2, h.2⟩) (run_main (F := Bits) m ρ)

theorem frame_ideal : Cert.quiescent_KernelIdeal := fun m ρ _ =>
  (θ_run Cert.KernelIdeal.defs _ _).mono (fun _ h => ⟨fun c => (h.1 c).2, h.2⟩) (run_main (F := Ideal) m ρ)
theorem frame_ideal_finite [Cert.Pre_finite_KernelIdeal.Facts] : Cert.quiescent_KernelIdeal_pre_finite_KernelIdeal := fun m ρ _ => frame_ideal m ρ trivial

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_reference_finite [Cert.Pre_finite_ReferenceIdeal.Facts] : Cert.quiescent_ReferenceIdeal_pre_finite_ReferenceIdeal := fun m ρ _ => frame_reference m ρ trivial

theorem preserves : Cert.preserves_Kernel_KernelIdeal :=
  IdealRules.named_const.statement Cert.KernelIdeal.κ "log2e" .f32 0x3FB8AA3B#32 (((Real.log 2)⁻¹ : ℝ) : EReal) rfl

end Cert.Softmax

end
-- ==== Proof.Payloads.lean ====
/-
# The kernel's operations, element by element

Over the extended reals each operation of the kernel is read at one index: a block of the product is a sum of products, a statistics
update takes the maximum and the sum along a row, the normalisation is a power of two.
-/
module

public import proofs.«01_k».proof.Proof.Contents
public import Idealize.ShloMosaic.Lib.Pointwise
public import Idealize.ShloMosaic.PureOps.IdealRules

@[expose] public section

noncomputable section

namespace Cert.Softmax

open Cert.KernelIdeal Cert.KernelIdeal.Gen
open Idealize.ShloMosaic Idealize.ShloMosaic.TcCoe Idealize.SL.Sem
open scoped BigOperators

/-- The constant 1 / log 2. -/
abbrev lam : EReal := (((Real.log 2)⁻¹ : ℝ) : EReal)

theorem named_lam : Named.named (F := Ideal) Cert.KernelIdeal.κ "log2e" (φ := .f32) 0x3FB8AA3B#32 = lam :=
  IdealRules.named_const.ideal_named_scalar _ _ _ _ rfl

theorem negInf : Ideal.ofBits .f32 0xFF800000#32 = ⊥ := by simp [Ideal.ofBits, Ideal.ieee]
theorem posInf : Ideal.ofBits .f32 0x7F800000#32 = ⊤ := by simp [Ideal.ofBits, Ideal.ieee]

theorem dotPay_apply (a : Vec Ideal S256x1024 .f32) (b : Vec Ideal S1024x2048 .f32) (r : Fin 256) (k : Fin 2048) :
    dotPay a b (ix2 r k) = ∑ l : Fin 1024, a (ix2 r l) * b (ix2 l k) := by
  pointwise [dotPay, k0_pay4]

theorem updM_apply (m : FVec Ideal S256x1 .f32) (b : Vec Ideal S256x2048 .f32) (r : Fin 256) :
    updM m b (ix2 r 0) = max (m (ix2 r 0)) (Finset.univ.fold max (⊥ : EReal) fun k : Fin 2048 => b (ix2 r k)) := by
  pointwise [updM, k0_pay8]
  rw [negInf]

theorem updS_apply (m s : FVec Ideal S256x1 .f32) (b : Vec Ideal S256x2048 .f32) (r : Fin 256) :
    updS m s b (ix2 r 0) = s (ix2 r 0) * Ideal.exp (m (ix2 r 0) - updM m b (ix2 r 0))
      + ∑ k : Fin 2048, Ideal.exp (b (ix2 r k) - updM m b (ix2 r 0)) := by
  pointwise [updS, updM, k0_pay9]

theorem wide_apply (v : FVec Ideal S256x1 .f32) (r : Fin 256) (l : Fin 128) : wide v (ix3 0 r l) = v (ix2 r 0) := by
  pointwise [wide]

theorem offPay_apply (m s : Vec Ideal S1x512x1 .f32) (r : Fin 512) :
    offPay m s (ix2 r 0) = m (ix3 0 r 0) * lam + Ideal.log (s (ix3 0 r 0)) * lam := by
  pointwise [offPay, k0_pay48]
  rw [named_lam]

theorem normPay_apply (c : FVec Ideal S512x1 .f32) (b : Vec Ideal S512x2048 .f32) (r : Fin 512) (k : Fin 2048) :
    normPay c b (ix2 r k) = Ideal.exp2 (b (ix2 r k) * lam - c (ix2 r 0)) := by
  pointwise [normPay, k0_pay50]
  rw [named_lam]
  rfl

end Cert.Softmax

end
-- ==== Proof.Online.lean ====
/-
# A running maximum and sum, over the extended reals

A pair `(m, s)` keeps a sum of exponentials `S` when `m` is a real number and `s = exp (-m) * S`; before the first block `m` is −∞ and
both sums are zero. The pair of the next block keeps the sum of the two. Nothing here depends on `m` being the greatest element: any
real offset gives the same quotients.
-/
module

public import Idealize.ShloMosaic.PureOps.Ideal.Laws

@[expose] public section

noncomputable section

namespace Cert.Softmax

open Idealize.ShloMosaic
open scoped BigOperators

/-- A sum of reals is the real of the sum. -/
theorem coe_sum {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- The greatest of finitely many reals, at least one, is a real. -/
theorem max_real {ι : Type} [Fintype ι] [Nonempty ι] (f : ι → ℝ) : ∃ r : ℝ, Finset.univ.fold max (⊥ : EReal) (fun i => (f i : EReal)) = r := by
  classical
  have key : ∀ t : Finset ι, (t = ∅ ∧ t.fold max (⊥ : EReal) (fun i => (f i : EReal)) = ⊥) ∨ ∃ r : ℝ, t.fold max (⊥ : EReal) (fun i => (f i : EReal)) = r := by
    intro t
    induction t using Finset.induction_on with
    | empty => exact .inl ⟨rfl, Finset.fold_empty⟩
    | insert a t ha ih =>
      right
      rw [Finset.fold_insert ha]
      rcases ih with ⟨-, h⟩ | ⟨r, h⟩
      · exact ⟨f a, by rw [h, max_eq_left bot_le]⟩
      · exact ⟨max (f a) r, by rw [h]; exact (EReal.coe_strictMono.monotone.map_max).symm⟩
  rcases key Finset.univ with ⟨h, -⟩ | h
  · exact absurd h Finset.univ_nonempty.ne_empty
  · exact h

/-- The pair `(m, s)` keeps the sum `S` of exponentials. -/
def Keeps (m s : EReal) (S : ℝ) : Prop := (m = ⊥ ∧ s = 0 ∧ S = 0) ∨ ∃ M : ℝ, m = M ∧ s = ((Real.exp (-M) * S : ℝ) : EReal)

theorem keeps_start : Keeps ⊥ 0 0 := .inl ⟨rfl, rfl, rfl⟩

/-- The sum of the exponentials taken at a real offset. -/
theorem sum_exp_sub {ι : Type} [Fintype ι] (f : ι → ℝ) (M : ℝ) :
    ∑ i, Ideal.exp ((f i : EReal) - (M : EReal)) = ((Real.exp (-M) * ∑ i, Real.exp (f i) : ℝ) : EReal) := by
  rw [Finset.mul_sum, ← coe_sum]
  refine Finset.sum_congr rfl fun i _ => ?_
  rw [← EReal.coe_sub, Ideal.exp_coe, ← Real.exp_add, neg_add_eq_sub]

/-- A block is taken in: the new maximum and the rescaled sum keep the sum of the old exponentials and the block's. -/
theorem keeps_step {ι : Type} [Fintype ι] [Nonempty ι] {m s : EReal} {S : ℝ} (h : Keeps m s S) (f : ι → ℝ) {m' : EReal}
    (hm : m' = max m (Finset.univ.fold max (⊥ : EReal) (fun i => (f i : EReal)))) :
    Keeps m' (s * Ideal.exp (m - m') + ∑ i, Ideal.exp ((f i : EReal) - m')) (S + ∑ i, Real.exp (f i)) := by
  obtain ⟨R, hR⟩ := max_real f
  rw [hR] at hm
  right
  rcases h with ⟨rfl, rfl, rfl⟩ | ⟨M, rfl, rfl⟩
  · rw [max_eq_right bot_le] at hm
    subst hm
    refine ⟨R, rfl, ?_⟩
    rw [zero_mul, zero_add, zero_add, sum_exp_sub]
  · have hm' : m' = ((max M R : ℝ) : EReal) := by rw [hm]; exact (EReal.coe_strictMono.monotone.map_max).symm
    subst hm'
    refine ⟨max M R, rfl, ?_⟩
    rw [sum_exp_sub, ← EReal.coe_sub, Ideal.exp_coe, ← EReal.coe_mul, ← EReal.coe_add, EReal.coe_eq_coe_iff, mul_add]
    congr 1
    rw [mul_right_comm, ← Real.exp_add]
    congr 2
    ring

/-- What the kernel writes: with the offset taken from a pair that keeps a positive sum, the power of two is the quotient. -/
theorem power_quotient {m s : EReal} {S : ℝ} (h : Keeps m s S) (hS : 0 < S) (x : ℝ) :
    Ideal.exp2 ((x : EReal) * (((Real.log 2)⁻¹ : ℝ) : EReal)
      - (m * (((Real.log 2)⁻¹ : ℝ) : EReal) + Ideal.log s * (((Real.log 2)⁻¹ : ℝ) : EReal))) = ((Real.exp x / S : ℝ) : EReal) := by
  rcases h with ⟨-, -, h⟩ | ⟨M, rfl, rfl⟩
  · exact absurd h hS.ne'
  have hp : 0 < Real.exp (-M) * S := mul_pos (Real.exp_pos _) hS
  have h2 : Real.log 2 ≠ 0 := (Real.log_pos one_lt_two).ne'
  rw [Ideal.log_coe, if_neg hp.not_ge, ← EReal.coe_mul, ← EReal.coe_mul, ← EReal.coe_mul, ← EReal.coe_add, ← EReal.coe_sub, Ideal.exp2_coe,
    EReal.coe_eq_coe_iff]
  rw [Real.rpow_eq_pow]
  rw [Real.rpow_def_of_pos two_pos, Real.log_mul (Real.exp_pos _).ne' hS.ne', Real.log_exp]
  have e : Real.log 2 * (x * (Real.log 2)⁻¹ - (M * (Real.log 2)⁻¹ + (-M + Real.log S) * (Real.log 2)⁻¹)) = x - Real.log S := by
    field_simp
    ring
  rw [e, Real.exp_sub, Real.exp_log hS]

/-- What the reference writes: the exponentials at any real offset, divided by their sum. -/
theorem softmax_quotient {ι : Type} [Fintype ι] [Nonempty ι] (f : ι → ℝ) (x : ℝ) {m : EReal}
    (hm : m = Finset.univ.fold max (⊥ : EReal) (fun i => (f i : EReal))) :
    Ideal.div (Ideal.exp ((x : EReal) - m)) (0 + ∑ i, Ideal.exp ((f i : EReal) - m)) = ((Real.exp x / ∑ i, Real.exp (f i) : ℝ) : EReal) := by
  obtain ⟨R, hR⟩ := max_real f
  rw [hR] at hm
  subst hm
  have hS : 0 < ∑ i, Real.exp (f i) := Finset.sum_pos (fun i _ => Real.exp_pos _) Finset.univ_nonempty
  rw [zero_add, sum_exp_sub, ← EReal.coe_sub, Ideal.exp_coe, Ideal.div_coe (mul_pos (Real.exp_pos _) hS).ne', ← EReal.coe_mul, EReal.coe_eq_coe_iff,
    sub_eq_add_neg, Real.exp_add]
  have := (Real.exp_pos (-R)).ne'
  have := hS.ne'
  field_simp

end Cert.Softmax

end
-- ==== Proof.Quotient.lean ====
/-
# The reference, element by element

The reference's array is `exp (l - m) / Σ exp (l - m)` along a row of the product, and the product is a sum of products.
-/
module

public import proofs.«01_k».proof.Proof.Gen.ReferenceIdeal.Run
public import proofs.«01_k».proof.Proof.Online
public import Idealize.ShloMosaic.Lib.Pointwise

@[expose] public section

noncomputable section

namespace Cert.Softmax

open Cert.ReferenceIdeal Cert.ReferenceIdeal.Gen
open Idealize.ShloMosaic Idealize.ShloMosaic.TcCoe Idealize.SL.Sem
open scoped BigOperators

/-- The reference's product. -/
def prod (x : FVec Ideal S512x1024 .f32) (w : FVec Ideal S1024x32768 .f32) : FVec Ideal S512x32768 .f32 :=
  Host.dotGeneral dot_S512x1024_S1024x32768_S512x32768_1_0_0_1_n_n none x w

/-- The rows' maxima. -/
def rowMax (d : FVec Ideal S512x32768 .f32) : FVec Ideal S512 .f32 :=
  Host.reduce FloatOps.maximumf d (constant S_ .f32 0xFF800000#32) reducesTo_S512x32768_S512_d1 h_S_

/-- A value per row along the row. -/
def along (v : FVec Ideal S512 .f32) : FVec Ideal S512x32768 .f32 :=
  broadcastInDim S512x32768 ![0, 1] bcast_S512x1_S512x32768_0_1 (broadcastInDim S512x1 ![0] bcast_S512_S512x1_0 v)

/-- The exponentials below the maximum, and their sums. -/
def expo (d : FVec Ideal S512x32768 .f32) : FVec Ideal S512x32768 .f32 := Host.exp (subf d (along (rowMax d)))
def rowSum (e : FVec Ideal S512x32768 .f32) : FVec Ideal S512 .f32 :=
  Host.reduceAdd e (constant S_ .f32 0x00000000#32) reducesTo_S512x32768_S512_d1 h_S_

/-- The reference's array. -/
def soft (d : FVec Ideal S512x32768 .f32) : FVec Ideal S512x32768 .f32 := Host.divf (expo d) (along (rowSum (expo d)))

theorem negInf' : Ideal.ofBits .f32 0xFF800000#32 = ⊥ := by simp [Ideal.ofBits, Ideal.ieee]

theorem prod_apply (x : FVec Ideal S512x1024 .f32) (w : FVec Ideal S1024x32768 .f32) (r : Fin 512) (c : Fin 32768) :
    prod x w (ix2 r c) = ∑ k : Fin 1024, x (ix2 r k) * w (ix2 k c) := by
  pointwise [prod]

theorem along_apply (v : FVec Ideal S512 .f32) (r : Fin 512) (c : Fin 32768) : along v (ix2 r c) = v (ix1 r) := by
  pointwise [along]

theorem rowMax_apply (d : FVec Ideal S512x32768 .f32) (r : Fin 512) :
    rowMax d (ix1 r) = Finset.univ.fold max (⊥ : EReal) fun k : Fin 32768 => d (ix2 r k) := by
  pointwise [rowMax]
  rw [negInf']

theorem rowSum_apply (e : FVec Ideal S512x32768 .f32) (r : Fin 512) : rowSum e (ix1 r) = 0 + ∑ k : Fin 32768, e (ix2 r k) := by
  pointwise [rowSum]

theorem expo_apply (d : FVec Ideal S512x32768 .f32) (r : Fin 512) (c : Fin 32768) :
    expo d (ix2 r c) = Ideal.exp (d (ix2 r c) - Finset.univ.fold max (⊥ : EReal) fun k : Fin 32768 => d (ix2 r k)) := by
  rw [← rowMax_apply, ← along_apply (rowMax d) r c]
  pointwise [expo]

/-- The reference's array at an index, where a row of the product is real. -/
theorem soft_apply (d : FVec Ideal S512x32768 .f32) (r : Fin 512) (c : Fin 32768) (f : Fin 32768 → ℝ) (h : ∀ k, d (ix2 r k) = (f k : EReal)) :
    soft d (ix2 r c) = ((Real.exp (f c) / ∑ k, Real.exp (f k) : ℝ) : EReal) := by
  have hm : (Finset.univ.fold max (⊥ : EReal) fun k : Fin 32768 => d (ix2 r k)) = Finset.univ.fold max (⊥ : EReal) fun k : Fin 32768 => (f k : EReal) :=
    congrArg (Finset.univ.fold max (⊥ : EReal)) (funext h)
  have e : ∀ k, expo d (ix2 r k) = Ideal.exp ((f k : EReal) - Finset.univ.fold max (⊥ : EReal) fun k : Fin 32768 => (f k : EReal)) := fun k => by
    rw [expo_apply, hm, h]
  have q : soft d (ix2 r c) = Ideal.div (expo d (ix2 r c)) (along (rowSum (expo d)) (ix2 r c)) := by
    unfold soft
    generalize expo d = e
    generalize along (rowSum e) = b
    rfl
  rw [q, along_apply, rowSum_apply, e c, Finset.sum_congr rfl fun k _ => e k]
  exact softmax_quotient f (f c) rfl

end Cert.Softmax

end
-- ==== Proof.Product.lean ====
/-
# The blocks are blocks of one product

Every device holds all of `x` and a quarter of the columns of `w`. Each half slab of the result's buffer, whichever device computed it, is
the part of the product of `x` and `w` that lies there.
-/
module

public import proofs.«01_k».proof.Proof.Payloads
public import proofs.«01_k».proof.Proof.Quotient
public import Idealize.ShloMosaic.Lib.Layout

@[expose] public section

noncomputable section

namespace Cert.Softmax

open Cert.KernelIdeal Cert.KernelIdeal.Gen
open Idealize.ShloMosaic Idealize.ShloMosaic.TcCoe Idealize.SL.Sem
open scoped BigOperators

/-- Rows of `x`. -/
theorem rows_apply (a : Fin 2) (x : Vec Ideal S512x1024 .f32) (r : Fin 256) (l : Fin 1024) :
    rows a x (ix2 r l) = x (ix2 ⟨256 * a.val + r.val, by omega⟩ l) := by
  refine congrArg x (idx2_ext ?_ ?_)
  · exact ValueKit.view_emb_slice_whole_unit_val main_arg0 _ _ (rowO_inb a) (ix2 r l) 0
  · exact (ValueKit.view_emb_slice_whole_unit_val main_arg0 _ _ (rowO_inb a) (ix2 r l) 1).trans (Nat.zero_add _)

/-- Columns of a device's block of `w`. -/
theorem wcols_apply (j : Fin 4) (w : Vec Ideal S1024x8192 .f32) (l : Fin 1024) (k : Fin 2048) :
    wcols j.val w (ix2 l k) = w (ix2 l ⟨2048 * j.val + k.val, by omega⟩) := by
  have o0 : oW j.val 0 = 0 := by revert j; decide
  have o1 : oW j.val 1 = 2048 * j.val := by revert j; decide
  refine congrArg w (idx2_ext ?_ ?_)
  · exact (ValueKit.view_emb_slice_whole_unit_val main_arg1 _ _ (oW_inb j.val) (ix2 l k) 0).trans ((congrArg (· + l.val) o0).trans (Nat.zero_add _))
  · exact (ValueKit.view_emb_slice_whole_unit_val main_arg1 _ _ (oW_inb j.val) (ix2 l k) 1).trans (congrArg (· + k.val) o1)

/-- Device `c`'s block of a matrix cut into four along its columns. -/
abbrev part (w : Vec Ideal ⟨2, ![1024, 32768]⟩ .f32) (c : Dev nD) : Vec Ideal S1024x8192 .f32 :=
  Layout.blockN ⟨2, ![1024, 8192]⟩ ⟨2, ![1024, 32768]⟩ (Layout.meshBlock [2, 4] ![[], [1]] c) w

/-- The block's coordinates: every row, the columns of the device's column of the mesh. -/
theorem blockRow (c : Dev nD) : Layout.meshLin [2, 4] c.val ((![[], [1]] : Fin 2 → List Nat) 0) = 0 := by revert c; decide
theorem blockCol (c : Dev nD) : Layout.meshLin [2, 4] c.val ((![[], [1]] : Fin 2 → List Nat) 1) = c.val % 4 := by revert c; decide

theorem part_apply (w : Vec Ideal ⟨2, ![1024, 32768]⟩ .f32) (c : Dev nD) (l : Fin 1024) (k : Fin 8192) :
    part w c (ix2 l k) = w (ix2 l ⟨8192 * (c.val % 4) + k.val, by omega⟩) := by
  refine congrArg w (idx2_ext ?_ ?_)
  · refine (Layout.TilesN.idx_val _ _ _ _).trans ?_
    refine Eq.trans (congrArg (· * 1024 + l.val) (blockRow c)) ?_
    show 0 * 1024 + l.val = l.val
    omega
  · refine (Layout.TilesN.idx_val _ _ _ _).trans ?_
    refine Eq.trans (congrArg (· * 8192 + k.val) (blockCol c)) ?_
    show c.val % 4 * 8192 + k.val = 8192 * (c.val % 4) + k.val
    omega

variable (x : Vec Ideal S512x1024 .f32) (w : Vec Ideal ⟨2, ![1024, 32768]⟩ .f32)

theorem src_col (c : Dev nD) (a : Fin 2) (b : Fin 16) : (src c a b).val % 4 = b.val / 4 := by revert c a b; decide

/-- A half slab is the product's part. -/
theorem prodBlk_apply (c : Dev nD) (a : Fin 2) (b : Fin 16) (r : Fin 256) (k : Fin 2048) :
    prodBlk (fun _ => x) (part w) c a b (ix2 r k) = prod x w (ix2 ⟨256 * a.val + r.val, by omega⟩ ⟨2048 * b.val + k.val, by omega⟩) := by
  unfold prodBlk
  rw [dotPay_apply, prod_apply]
  refine Finset.sum_congr rfl fun l _ => ?_
  have e := wcols_apply ⟨b.val % 4, Nat.mod_lt _ (by decide)⟩ (part w (src c a b)) l k
  rw [rows_apply]
  refine congrArg _ (e.trans ?_)
  rw [part_apply]
  refine congrArg w (idx2_ext rfl ?_)
  show 8192 * ((src c a b).val % 4) + (2048 * (b.val % 4) + k.val) = 2048 * b.val + k.val
  rw [src_col]; omega

/-- The result's buffer holds the product once every block has arrived. -/
theorem logits_eq (c : Dev nD) : logits (fun _ => x) (part w) c = prod x w := by
  funext i
  have h0 : (i 0).val < 512 := (i 0).isLt
  have h1 : (i 1).val < 32768 := (i 1).isLt
  have e := prodBlk_apply x w c ⟨(i 0).val / 256, by omega⟩ ⟨(i 1).val / 2048, by omega⟩ ⟨(i 0).val % 256, by omega⟩ ⟨(i 1).val % 2048, by omega⟩
  refine Eq.trans ?_ (e.trans (congrArg (prod x w) (idx2_ext ?_ ?_)))
  · exact prodBlk_congr _ _ c rfl rfl (idx2_ext rfl rfl)
  · show 256 * ((i 0).val / 256) + (i 0).val % 256 = (i 0).val; omega
  · show 2048 * ((i 1).val / 2048) + (i 1).val % 2048 = (i 1).val; omega

end Cert.Softmax

end
-- ==== Proof.Kept.lean ====
/-
# The statistics keep the rows' sums

With real products, a device's running pair keeps, row by row, the sum of the exponentials of the blocks taken in; after the last
arrival these are all sixteen blocks, so the pair keeps the sum along the whole row.
-/
module

public import proofs.«01_k».proof.Proof.Product

@[expose] public section

noncomputable section

namespace Cert.Softmax

open Cert.KernelIdeal Cert.KernelIdeal.Gen
open Idealize.ShloMosaic Idealize.ShloMosaic.TcCoe Idealize.SL.Sem
open scoped BigOperators

/-- One update of a row's pair. -/
theorem upd_keeps (s : St Ideal) (b : Vec Ideal S256x2048 .f32) (r : Fin 256) {S : ℝ} (h : Keeps (s.1 (ix2 r 0)) (s.2 (ix2 r 0)) S)
    (f : Fin 2048 → ℝ) (hb : ∀ k, b (ix2 r k) = (f k : EReal)) :
    Keeps ((upd s b).1 (ix2 r 0)) ((upd s b).2 (ix2 r 0)) (S + ∑ k, Real.exp (f k)) := by
  have hm : updM s.1 b (ix2 r 0) = max (s.1 (ix2 r 0)) (Finset.univ.fold max (⊥ : EReal) fun k => (f k : EReal)) := by
    rw [updM_apply]
    exact congrArg _ (congrArg (Finset.univ.fold max (⊥ : EReal)) (funext hb))
  have hs := updS_apply s.1 s.2 b r
  rw [Finset.sum_congr rfl fun k _ => by rw [hb k]] at hs
  show Keeps (updM s.1 b (ix2 r 0)) (updS s.1 s.2 b (ix2 r 0)) _
  rw [hs]
  exact keeps_step h f hm

theorem st0_keeps (r : Fin 256) : Keeps ((st0 (F := Ideal)).1 (ix2 r 0)) ((st0 (F := Ideal)).2 (ix2 r 0)) 0 := by
  have h1 : (st0 (F := Ideal)).1 (ix2 r 0) = ⊥ := negInf
  have h2 : (st0 (F := Ideal)).2 (ix2 r 0) = 0 := Ideal.ofBits_zero_f32
  rw [h1, h2]
  exact keeps_start

variable (X : Dev nD → Vec Ideal S512x1024 .f32) (W : Dev nD → Vec Ideal S1024x8192 .f32)

/-- After `i` arrivals a row's pair keeps the sum of the blocks arrived, and of the own blocks taken in. -/
theorem stAt_keeps (c : Dev nD) (r : Fin 256) (f : Fin 16 → Fin 2048 → ℝ)
    (h : ∀ b k, prodBlk X W c (half c) b (ix2 r k) = (f b k : EReal)) (i : Nat) :
    Keeps ((stAt X W c i).1 (ix2 r 0)) ((stAt X W c i).2 (ix2 r 0))
      ((∑ j ∈ Finset.range i, ∑ k, Real.exp (f (blk c (j + 4)) k)) + ∑ j ∈ Finset.range (i - 8), ∑ k, Real.exp (f (blk c j) k)) := by
  induction i with
  | zero => simpa [stAt] using st0_keeps r
  | succ i ih =>
    have step := upd_keeps (stAt X W c i) _ r ih (f (blk c (i + 4))) (h (blk c (i + 4)))
    rw [stAt]
    split
    · next hi =>
      have e : i + 1 - 8 = i - 8 := by omega
      rw [e, Finset.sum_range_succ, add_right_comm]
      exact step
    · next hi =>
      have e : i + 1 - 8 = (i - 8) + 1 := by omega
      have step2 := upd_keeps _ _ r step (f (blk c (i - 8))) (h (blk c (i - 8)))
      rw [e, Finset.sum_range_succ, Finset.sum_range_succ _ (i - 8), ← add_assoc, add_right_comm (∑ j ∈ Finset.range i, _)]
      exact step2

/-- The blocks in the order in which a device takes them are all the blocks. -/
theorem sum_blocks (c : Dev nD) (g : Fin 16 → ℝ) :
    (∑ j ∈ Finset.range 12, g (blk c (j + 4))) + ∑ j ∈ Finset.range 4, g (blk c j) = ∑ b, g b := by
  have e : (∑ j ∈ Finset.range 12, g (blk c (j + 4))) + ∑ j ∈ Finset.range 4, g (blk c j) = ∑ j ∈ Finset.range 16, g (blk c j) := by
    rw [show 16 = 4 + 12 from rfl, Finset.sum_range_add (fun j => g (blk c j)), add_comm]
    exact congrArg _ (Finset.sum_congr rfl fun j _ => by rw [add_comm])
  rw [e, Finset.sum_range]
  exact Function.Bijective.sum_comp (e := fun j : Fin 16 => blk c j.val)
    ⟨fun i j h => Fin.ext (blk_inj c i.isLt j.isLt h), fun b => (blk_surj c b).imp' (fun i => ⟨i % 16, Nat.mod_lt _ (by decide)⟩)
      fun i ⟨hi, h⟩ => by show blk c (i % 16) = b; rw [Nat.mod_eq_of_lt hi]; exact h⟩ g

/-- A device's statistics of a row keep the sum along the whole row. -/
theorem st_keeps (x : Vec Ideal S512x1024 .f32) (w : Vec Ideal ⟨2, ![1024, 32768]⟩ .f32) (c : Dev nD) (r : Fin 256) (f : Fin 32768 → ℝ)
    (h : ∀ k, prod x w (ix2 ⟨256 * (half c).val + r.val, by omega⟩ k) = (f k : EReal)) :
    Keeps ((st (fun _ => x) (part w) c).1 (ix2 r 0)) ((st (fun _ => x) (part w) c).2 (ix2 r 0)) (∑ k, Real.exp (f k)) := by
  have H := stAt_keeps (fun _ => x) (part w) c r (fun b k => f ⟨2048 * b.val + k.val, by omega⟩)
    (fun b k => (prodBlk_apply x w c (half c) b r k).trans (h _)) 12
  have e := sum_blocks c (fun b => ∑ k : Fin 2048, Real.exp (f ⟨2048 * b.val + k.val, by omega⟩))
  have t := Fin.sum_univ_tiles 16 2048 rfl fun k : Fin 32768 => Real.exp (f k)
  have t' : ∑ k : Fin 32768, Real.exp (f k) = ∑ b : Fin 16, ∑ k : Fin 2048, Real.exp (f ⟨2048 * b.val + k.val, by omega⟩) := by
    rw [t]
    refine Finset.sum_congr rfl fun b _ => Finset.sum_congr rfl fun k _ => congrArg (fun i => Real.exp (f i)) (Fin.ext ?_)
    show b.val * 2048 + k.val = 2048 * b.val + k.val
    rw [Nat.mul_comm]
  rw [t', ← e]
  exact H

end Cert.Softmax

end
-- ==== Proof.Value.lean ====
/-
# The kernel's result is the softmax

On every device the result's buffer ends with the quotients that the reference computes, if the arguments are real.
-/
module

public import proofs.«01_k».proof.Proof.Kept

@[expose] public section

noncomputable section

namespace Cert.Softmax

open Cert.KernelIdeal Cert.KernelIdeal.Gen
open Idealize.ShloMosaic Idealize.ShloMosaic.TcCoe Idealize.SL.Sem
open scoped BigOperators

/-- A product of real matrices is real. -/
theorem prod_real (x : Vec Ideal S512x1024 .f32) (w : Vec Ideal ⟨2, ![1024, 32768]⟩ .f32) (hx : ∀ i, ∃ r : ℝ, x i = r) (hw : ∀ i, ∃ r : ℝ, w i = r)
    (r : Fin 512) : ∃ f : Fin 32768 → ℝ, ∀ k, prod x w (ix2 r k) = (f k : EReal) := by
  choose fx hx using hx
  choose fw hw using hw
  refine ⟨fun k => ∑ l : Fin 1024, fx (ix2 r l) * fw (ix2 l k), fun k => ?_⟩
  rw [prod_apply, ← coe_sum]
  exact Finset.sum_congr rfl fun l _ => by rw [hx, hw, EReal.coe_mul]

variable (x : Vec Ideal S512x1024 .f32) (w : Vec Ideal ⟨2, ![1024, 32768]⟩ .f32)

/-- A device holding row `r` of the statistics: itself or its pair. -/
def rowDev (c : Dev nD) (r : Fin 512) : Dev nD := if r.val / 256 = (half c).val then c else nP c

theorem rowDev_half (c : Dev nD) (r : Fin 512) : (half (rowDev c r)).val = r.val / 256 := by
  have hr := r.isLt
  have h1 := half_add c
  unfold rowDev
  split
  · next h => exact h.symm
  · next h => rw [half_nP]; have := (half c).isLt; omega

theorem statVal_max (X : Dev nD → Vec Ideal S512x1024 .f32) (W : Dev nD → Vec Ideal S1024x8192 .f32) (e : Dev nD) : statVal X W e 0 = wide (st X W e).1 := if_pos rfl
theorem statVal_sum (X : Dev nD → Vec Ideal S512x1024 .f32) (W : Dev nD → Vec Ideal S1024x8192 .f32) (e : Dev nD) : statVal X W e 1 = wide (st X W e).2 :=
  if_neg Nat.one_ne_zero

/-- The two statistics of a row. -/
theorem stats_apply (X : Dev nD → Vec Ideal S512x1024 .f32) (W : Dev nD → Vec Ideal S1024x8192 .f32) (c : Dev nD) (r : Fin 512) (l : Fin 128) :
    stats X W c (ix3 0 r l) = (st X W (rowDev c r)).1 (ix2 ⟨r.val % 256, Nat.mod_lt _ (by decide)⟩ 0)
    ∧ stats X W c (ix3 1 r l) = (st X W (rowDev c r)).2 (ix2 ⟨r.val % 256, Nat.mod_lt _ (by decide)⟩ 0) := by
  have e : planeIx (r.val % 256) l.val (Nat.mod_lt _ (by decide)) l.isLt = ix3 0 ⟨r.val % 256, Nat.mod_lt _ (by decide)⟩ l := by
    funext a
    match a with
    | 0 => rfl
    | 1 => rfl
    | 2 => rfl
  constructor
  · show statVal X W (rowDev c r) 0 (planeIx (r.val % 256) l.val _ _) = _
    rw [e, statVal_max]; exact wide_apply _ _ l
  · show statVal X W (rowDev c r) 1 (planeIx (r.val % 256) l.val _ _) = _
    rw [e, statVal_sum]; exact wide_apply _ _ l

/-- The lane the normalisation reads, of each plane. -/
theorem lane0_apply (s : Vec Ideal S2x512x128 .f32) (r : Fin 512) : ssM.view.readAt (Elt Ideal) (lane 0).toLoadRect s (ix3 0 r 0) = s (ix3 0 r 0) := by
  have h := ValueKit.view_emb_slice_whole_unit_val cc0_scratch4 ![0, 0, 0] S1x512x1.size inb_S2x512x128_S1x512x1_0_0_0 (ix3 0 r 0)
  refine congrArg s (funext fun a => Fin.ext ?_)
  match a with
  | 0 => exact h 0
  | 1 => exact (h 1).trans (Nat.zero_add _)
  | 2 => exact h 2
theorem lane1_apply (s : Vec Ideal S2x512x128 .f32) (r : Fin 512) : ssM.view.readAt (Elt Ideal) (lane 1).toLoadRect s (ix3 0 r 0) = s (ix3 1 r 0) := by
  have h := ValueKit.view_emb_slice_whole_unit_val cc0_scratch4 ![1, 0, 0] S1x512x1.size inb_S2x512x128_S1x512x1_1_0_0 (ix3 0 r 0)
  refine congrArg s (funext fun a => Fin.ext ?_)
  match a with
  | 0 => exact h 0
  | 1 => exact (h 1).trans (Nat.zero_add _)
  | 2 => exact h 2

/-- A column block as it is read for the normalisation. -/
theorem colIn_apply (c : Dev nD) (b : Fin 16) (r : Fin 512) (k : Fin 2048) :
    colIn (fun _ => x) (part w) c b (ix2 r k) = prod x w (ix2 r ⟨2048 * b.val + k.val, by omega⟩) := by
  obtain ⟨h0, h1⟩ := col_emb b (ix2 r k)
  unfold colIn
  rw [logits_eq]
  exact congrArg (prod x w) (idx2_ext h0 h1)

/-- The kernel's result at an index. -/
theorem final_apply (c : Dev nD) (r : Fin 512) (j : Fin 32768) (f : Fin 32768 → ℝ) (h : ∀ k, prod x w (ix2 r k) = (f k : EReal)) :
    final (fun _ => x) (part w) c (ix2 r j) = ((Real.exp (f j) / ∑ k, Real.exp (f k) : ℝ) : EReal) := by
  have hrow : (⟨256 * (half (rowDev c r)).val + r.val % 256, by omega⟩ : Fin 512) = r := Fin.ext (by
    show 256 * (half (rowDev c r)).val + r.val % 256 = r.val
    rw [rowDev_half]; omega)
  have hk := st_keeps x w (rowDev c r) ⟨r.val % 256, Nat.mod_lt _ (by decide)⟩ f
    fun k => (congrArg (fun q : Fin 512 => prod x w (ix2 q k)) hrow).trans (h k)
  have hS : 0 < ∑ k, Real.exp (f k) := Finset.sum_pos (fun i _ => Real.exp_pos _) Finset.univ_nonempty
  have e1 : final (fun _ => x) (part w) c (ix2 r j)
      = normPay (offs (fun _ => x) (part w) c) (colIn (fun _ => x) (part w) c ⟨j.val / 2048, by omega⟩) (ix2 r ⟨j.val % 2048, by omega⟩) :=
    colOut_congr _ _ c rfl (idx2_ext rfl rfl)
  have e2 : colIn (fun _ => x) (part w) c ⟨j.val / 2048, by omega⟩ (ix2 r ⟨j.val % 2048, by omega⟩) = (f j : EReal) := by
    rw [colIn_apply, ← h j]
    refine congrArg (fun q : Fin 32768 => prod x w (ix2 r q)) (Fin.ext ?_)
    show 2048 * (j.val / 2048) + j.val % 2048 = j.val
    omega
  have e3 : offs (fun _ => x) (part w) c (ix2 r 0) = (st (fun _ => x) (part w) (rowDev c r)).1 (ix2 ⟨r.val % 256, Nat.mod_lt _ (by decide)⟩ 0) * lam
      + Ideal.log ((st (fun _ => x) (part w) (rowDev c r)).2 (ix2 ⟨r.val % 256, Nat.mod_lt _ (by decide)⟩ 0)) * lam := by
    unfold offs
    rw [offPay_apply, lane0_apply, lane1_apply, (stats_apply _ _ c r 0).1, (stats_apply _ _ c r 0).2]
  rw [e1, normPay_apply, e2, e3]
  exact power_quotient hk hS (f j)

/-- The kernel's result is the reference's array. -/
theorem final_eq (hx : ∀ i, ∃ r : ℝ, x i = r) (hw : ∀ i, ∃ r : ℝ, w i = r) (c : Dev nD) : final (fun _ => x) (part w) c = soft (prod x w) := by
  funext i
  have hi : i = ix2 (⟨(i 0).val, (i 0).isLt⟩ : Fin 512) (⟨(i 1).val, (i 1).isLt⟩ : Fin 32768) := idx2_ext rfl rfl
  rw [hi]
  obtain ⟨f, hf⟩ := prod_real x w hx hw ⟨(i 0).val, (i 0).isLt⟩
  rw [final_apply x w c _ _ f hf]
  exact (soft_apply (prod x w) _ _ f hf).symm

end Cert.Softmax

end
-- ==== Proof.Finite.lean ====
/-
# Finite arguments

The precondition says that no entry of the arguments is infinite; over the extended reals every entry is then a real number.
-/
module

public import proofs.«01_k».proof.Defs
public import proofs.«01_k».proof.Proof.Payloads
public import Idealize.ShloMosaic.Lib.ReduceAll

@[expose] public section

noncomputable section

namespace Cert.Softmax

open Idealize.ShloMosaic

theorem finite_facts_kernel : Cert.Pre_finite_KernelIdeal.Facts where
  bcast_S_S512x1024 := by decide
  reducesTo_S512x1024_S_d0_1 := by decide
  h_S_ := by decide
  bcast_S_S1024x8192 := by decide
  reducesTo_S1024x8192_S_d0_1 := by decide

theorem finite_facts_reference : Cert.Pre_finite_ReferenceIdeal.Facts where
  bcast_S_S512x1024 := by decide
  reducesTo_S512x1024_S_d0_1 := by decide
  h_S_ := by decide
  bcast_S_S1024x32768 := by decide
  reducesTo_S1024x32768_S_d0_1 := by decide

/-- An extended real of finite size is a real. -/
theorem real_of_abs {x : EReal} (h : max x (-x) < ⊤) : ∃ r : ℝ, x = r := by
  induction x with
  | bot => simp at h
  | top => simp at h
  | coe r => exact ⟨r, rfl⟩

/-- What one comparison of the precondition says. -/
theorem real_of_cmp {s : Shape} (x : FVec Ideal s .f32) (B : FVec Ideal s .f32) (i : s.Idx) (hB : B i = ⊤) (h : cmpf .olt (Host.absf x) B i = 1#1) :
    ∃ r : ℝ, x i = r := by
  have h' : Ideal.cmp .olt (max (x i) (-(x i))) (B i) = 1#1 := h
  rw [hB] at h'
  refine real_of_abs ?_
  by_contra hn
  have : decide (max (x i) (-(x i)) < (⊤ : EReal)) = false := decide_eq_false hn
  simp only [Ideal.cmp, this] at h'
  exact absurd h' (by decide)

open Cert.Pre_finite_KernelIdeal in
/-- Under the precondition every entry of the device's arguments is a real. -/
theorem finite_real [Cert.Pre_finite_KernelIdeal.Facts] (x : FVec Ideal S512x1024 .f32) (w : FVec Ideal S1024x8192 .f32)
    (h : fn (F := Ideal) x w = fun _ => 1#1) : (∀ i, ∃ r : ℝ, x i = r) ∧ ∀ i, ∃ r : ℝ, w i = r := by
  have h0 := congrFun h (fun a => a.elim0)
  dsimp only [fn] at h0
  have hs : Subsingleton S_.Idx := ⟨fun a b => funext fun i => i.elim0⟩
  have both : ∀ a b : BitVec 1, IntOp.andi a b = 1#1 → a = 1#1 ∧ b = 1#1 := by decide
  obtain ⟨hx, hw⟩ := both _ _ h0
  exact ⟨fun i => real_of_cmp x _ i posInf (Host.reduce_andi_all _ _ _ _ _ hx i), fun i => real_of_cmp w _ i posInf (Host.reduce_andi_all _ _ _ _ _ hw i)⟩

end Cert.Softmax

end
-- ==== Proof.Algebraic.lean ====
/-
# The kernel and the reference compute the same function

The whole `w` is real because each of its columns lies in some device's block; the two runs then end with one array.
-/
module

public import proofs.«01_k».proof.Defs
public import proofs.«01_k».proof.Proof.Launch
public import proofs.«01_k».proof.Proof.Value
public import proofs.«01_k».proof.Proof.Finite

@[expose] public section

noncomputable section

namespace Cert.Softmax

open Idealize.ShloMosaic Idealize.SL.Sem

/-- A matrix whose parts are real is real. -/
theorem real_of_parts (w : Vec Ideal ⟨2, ![1024, 32768]⟩ .f32) (h : ∀ c : Dev Cert.KernelIdeal.nD, ∀ i, ∃ r : ℝ, part w c i = r) :
    ∀ i, ∃ r : ℝ, w i = r := by
  intro i
  have h1 : (i 1).val < 32768 := (i 1).isLt
  have e := part_apply w ⟨(i 1).val / 8192, by show _ < 8; omega⟩ ⟨(i 0).val, (i 0).isLt⟩ ⟨(i 1).val % 8192, by omega⟩
  obtain ⟨r, hr⟩ := h ⟨(i 1).val / 8192, by show _ < 8; omega⟩ (ix2 ⟨(i 0).val, (i 0).isLt⟩ ⟨(i 1).val % 8192, by omega⟩)
  refine ⟨r, ?_⟩
  rw [← hr, e]
  refine congrArg w (idx2_ext rfl ?_)
  show (i 1).val = 8192 * ((i 1).val / 8192 % 4) + (i 1).val % 8192
  omega

theorem algebraic [Cert.Pre_finite_KernelIdeal.Facts] : Cert.algebraic_KernelIdeal_ReferenceIdeal_pre_finite_KernelIdeal := by
  intro m g m' g' hpre hin
  have hX : argX m = fun _ => m' (((0 : Dev Cert.ReferenceIdeal.nD).tc : Thread Cert.ReferenceIdeal.nD Cert.ReferenceIdeal.τ).loc Cert.ReferenceIdeal.main_arg0) :=
    funext fun c => (hin c).1
  have hW : argW m = part (m' (((0 : Dev Cert.ReferenceIdeal.nD).tc : Thread Cert.ReferenceIdeal.nD Cert.ReferenceIdeal.τ).loc Cert.ReferenceIdeal.main_arg1)) :=
    funext fun c => (hin c).2
  have hx : ∀ i, ∃ r : ℝ, m' (((0 : Dev Cert.ReferenceIdeal.nD).tc : Thread Cert.ReferenceIdeal.nD Cert.ReferenceIdeal.τ).loc Cert.ReferenceIdeal.main_arg0) i = (r : EReal) := by
    rw [← (hin 0).1]
    exact (finite_real _ _ (hpre 0)).1
  have hw : ∀ i, ∃ r : ℝ, m' (((0 : Dev Cert.ReferenceIdeal.nD).tc : Thread Cert.ReferenceIdeal.nD Cert.ReferenceIdeal.τ).loc Cert.ReferenceIdeal.main_arg1) i = (r : EReal) :=
    real_of_parts _ fun c => by
      have := (finite_real _ _ (hpre c)).2
      rw [(hin c).2] at this
      exact this
  refine ⟨soft (prod (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))), ?_, ?_⟩
  · refine (θ_run Cert.KernelIdeal.defs _ _).mono (fun r h c => ?_) (run_main (F := Ideal) m g)
    have hc := h.1 c
    refine ⟨hc.1.trans ?_, hc.2⟩
    rw [hX, hW]
    exact final_eq _ _ hx hw c
  · exact (θ_run Cert.ReferenceIdeal.defs _ _).mono (fun r h => h 0) (Cert.ReferenceIdeal.Value.run (F := Ideal) m' g')

end Cert.Softmax

end
-- ==== Proof.lean ====
/-
# The kernel is correct

The claims, each from the module that proves it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

open Idealize.ShloMosaic Idealize.SL.Sem

theorem claim : Cert.Claim :=
  haveI := Softmax.finite_facts_kernel
  haveI := Softmax.finite_facts_reference
  ⟨Cert.Kernel.Gen.facts, Cert.KernelIdeal.Gen.facts, Cert.ReferenceIdeal.Gen.facts, Softmax.finite_facts_kernel, Softmax.finite_facts_reference,
    Softmax.frame_kernel, Softmax.frame_ideal, Softmax.frame_ideal_finite, Softmax.frame_reference, Softmax.frame_reference_finite,
    Softmax.preserves, Softmax.algebraic⟩

end Cert.Proof

end
